-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S2048 : Shape := ⟨1, ![2048]⟩
abbrev S2048x128x3 : Shape := ⟨3, ![2048, 128, 3]⟩
abbrev S2048x3 : Shape := ⟨2, ![2048, 3]⟩
abbrev S2048x128 : Shape := ⟨2, ![2048, 128]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S2x128 : Shape := ⟨2, ![2, 128]⟩
abbrev S3x128 : Shape := ⟨2, ![3, 128]⟩
abbrev S_ : Shape := ⟨0, ![]⟩

class Facts : Prop where
  bcast_S_S2048 : S_.BroadcastsInDim S2048 (![] : Fin 0 → Fin S2048.rank)
  bcast_S_S128 : S_.BroadcastsInDim S128 (![] : Fin 0 → Fin S128.rank)
  bcast_S_S256 : S_.BroadcastsInDim S256 (![] : Fin 0 → Fin S256.rank)
  bcast_S_S2048x3 : S_.BroadcastsInDim S2048x3 (![] : Fin 0 → Fin S2048x3.rank)
  slices_S6x128_S3x128_0_0 : S6x128.Slices ![0, 0] S3x128
  bcast_S_S3x128 : S_.BroadcastsInDim S3x128 (![] : Fin 0 → Fin S3x128.rank)

variable [Facts]

def fn_part2 {F : FTy → Type} [FloatOps F] (main_arg5 : FVec F S2048x3 .f32) (main_arg7 : FVec F S6x128 .f32) (main_arg16 : FVec F S256 .f32) (main_v4 : IVec S2048 1) (main_v9 : IVec S2048 1) (main_v14 : IVec S2048 1) (main_v25 : IVec S128 1) (main_v33 : IVec S256 1) (main_cst_11 : FVec F S_ .f32) : IVec S2048 1 × IVec S2048 1 × IVec S2048 1 × IVec S128 1 × IVec S256 1 × IVec S2048x3 1 × IVec S3x128 1 :=
  let main_v34 : FVec F S256 .f32 := broadcastInDim S256 ![] bcast_S_S256 main_cst_11
  let main_v35 : IVec S256 1 := cmpf .oeq main_arg16 main_v34
  let main_v36 : IVec S256 1 := andi main_v33 main_v35
  let main_v37 : FVec F S2048x3 .f32 := Host.absf main_arg5
  let main_cst_12 : FVec F S_ .f32 := constant S_ .f32 0x7F800000#32
  let main_v38 : FVec F S2048x3 .f32 := broadcastInDim S2048x3 ![] bcast_S_S2048x3 main_cst_12
  let main_v39 : IVec S2048x3 1 := cmpf .olt main_v37 main_v38
  let main_v40 : FVec F S3x128 .f32 := (extractStridedSlice S3x128 ![0, 0] · slices_S6x128_S3x128_0_0) main_arg7
  let main_v41 : FVec F S3x128 .f32 := Host.absf main_v40
  let main_cst_13 : FVec F S_ .f32 := constant S_ .f32 0x7F800000#32
  let main_v42 : FVec F S3x128 .f32 := broadcastInDim S3x128 ![] bcast_S_S3x128 main_cst_13
  let main_v43 : IVec S3x128 1 := cmpf .olt main_v41 main_v42
  (main_v4, main_v9, main_v14, main_v25, main_v36, main_v39, main_v43)

def fn_part1 {F : FTy → Type} [FloatOps F] (main_arg5 : FVec F S2048x3 .f32) (main_arg7 : FVec F S6x128 .f32) (main_arg9 : FVec F S128 .f32) (main_arg10 : FVec F S128 .f32) (main_arg12 : FVec F S256 .f32) (main_arg14 : FVec F S256 .f32) (main_arg15 : FVec F S256 .f32) (main_arg16 : FVec F S256 .f32) (main_arg18 : FVec F S128 .f32) (main_v4 : IVec S2048 1) (main_v9 : IVec S2048 1) (main_v14 : IVec S2048 1) (main_v16 : IVec S128 1) : IVec S2048 1 × IVec S2048 1 × IVec S2048 1 × IVec S128 1 × IVec S256 1 × IVec S2048x3 1 × IVec S3x128 1 :=
  let main_cst_5 : FVec F S_ .f32 := constant S_ .f32 0x3F800000#32
  let main_v17 : FVec F S128 .f32 := broadcastInDim S128 ![] bcast_S_S128 main_cst_5
  let main_v18 : IVec S128 1 := cmpf .oeq main_arg9 main_v17
  let main_v19 : IVec S128 1 := andi main_v16 main_v18
  let main_cst_6 : FVec F S_ .f32 := constant S_ .f32 0x00000000#32
  let main_v20 : FVec F S128 .f32 := broadcastInDim S128 ![] bcast_S_S128 main_cst_6
  let main_v21 : IVec S128 1 := cmpf .oeq main_arg10 main_v20
  let main_v22 : IVec S128 1 := andi main_v19 main_v21
  let main_cst_7 : FVec F S_ .f32 := constant S_ .f32 0x00000000#32
  let main_v23 : FVec F S128 .f32 := broadcastInDim S128 ![] bcast_S_S128 main_cst_7
  let main_v24 : IVec S128 1 := cmpf .oeq main_arg18 main_v23
  let main_v25 : IVec S128 1 := andi main_v22 main_v24
  let main_cst_8 : FVec F S_ .f32 := constant S_ .f32 0x00000000#32
  let main_v26 : FVec F S256 .f32 := broadcastInDim S256 ![] bcast_S_S256 main_cst_8
  let main_v27 : IVec S256 1 := cmpf .oeq main_arg12 main_v26
  let main_cst_9 : FVec F S_ .f32 := constant S_ .f32 0x00000000#32
  let main_v28 : FVec F S256 .f32 := broadcastInDim S256 ![] bcast_S_S256 main_cst_9
  let main_v29 : IVec S256 1 := cmpf .oeq main_arg14 main_v28
  let main_v30 : IVec S256 1 := andi main_v27 main_v29
  let main_cst_10 : FVec F S_ .f32 := constant S_ .f32 0x3F800000#32
  let main_v31 : FVec F S256 .f32 := broadcastInDim S256 ![] bcast_S_S256 main_cst_10
  let main_v32 : IVec S256 1 := cmpf .oeq main_arg15 main_v31
  let main_v33 : IVec S256 1 := andi main_v30 main_v32
  let main_cst_11 : FVec F S_ .f32 := constant S_ .f32 0x00000000#32
  fn_part2 (F := F) main_arg5 main_arg7 main_arg16 main_v4 main_v9 main_v14 main_v25 main_v33 main_cst_11

def fn {F : FTy → Type} [FloatOps F] (main_arg0 : IVec S2048 32) (main_arg1 : FVec F S2048x128x3 .f32) (main_arg2 : FVec F S2048x128x3 .f32) (main_arg3 : IVec S2048 32) (main_arg4 : IVec S2048 32) (main_arg5 : FVec F S2048x3 .f32) (main_arg6 : IVec S2048x128 1) (main_arg7 : FVec F S6x128 .f32) (main_arg8 : FVec F S128 .f32) (main_arg9 : FVec F S128 .f32) (main_arg10 : FVec F S128 .f32) (main_arg11 : FVec F S128x256 .f32) (main_arg12 : FVec F S256 .f32) (main_arg13 : FVec F S512x256 .f32) (main_arg14 : FVec F S256 .f32) (main_arg15 : FVec F S256 .f32) (main_arg16 : FVec F S256 .f32) (main_arg17 : FVec F S256x128 .f32) (main_arg18 : FVec F S128 .f32) (main_arg19 : FVec F S2x128 .f32) (main_arg20 : FVec F S2x128 .f32) (main_arg21 : FVec F S3x128 .f32) : IVec S2048 1 × IVec S2048 1 × IVec S2048 1 × IVec S128 1 × IVec S256 1 × IVec S2048x3 1 × IVec S3x128 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 2#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 32 := constantI S_ 32 0#32
  let main_v5 : IVec S2048 32 := broadcastInDim S2048 ![] bcast_S_S2048 main_c_1
  let main_v6 : IVec S2048 1 := cmpi .sge main_arg3 main_v5
  let main_c_2 : IVec S_ 32 := constantI S_ 32 2#32
  let main_v7 : IVec S2048 32 := broadcastInDim S2048 ![] bcast_S_S2048 main_c_2
  let main_v8 : IVec S2048 1 := cmpi .slt main_arg3 main_v7
  let main_v9 : IVec S2048 1 := andi main_v6 main_v8
  let main_c_3 : IVec S_ 32 := constantI S_ 32 0#32
  let main_v10 : IVec S2048 32 := broadcastInDim S2048 ![] bcast_S_S2048 main_c_3
  let main_v11 : IVec S2048 1 := cmpi .sge main_arg4 main_v10
  let main_c_4 : IVec S_ 32 := constantI S_ 32 3#32
  let main_v12 : IVec S2048 32 := broadcastInDim S2048 ![] bcast_S_S2048 main_c_4
  let main_v13 : IVec S2048 1 := cmpi .slt main_arg4 main_v12
  let main_v14 : IVec S2048 1 := andi main_v11 main_v13
  let main_cst : FVec F S_ .f32 := constant S_ .f32 0x00000000#32
  let main_v15 : FVec F S128 .f32 := broadcastInDim S128 ![] bcast_S_S128 main_cst
  let main_v16 : IVec S128 1 := cmpf .oeq main_arg8 main_v15
  fn_part1 (F := F) main_arg5 main_arg7 main_arg9 main_arg10 main_arg12 main_arg14 main_arg15 main_arg16 main_arg18 main_v4 main_v9 main_v14 main_v16
-- ==== Kernel.lean ====
abbrev S2048 : Shape := ⟨1, ![2048]⟩
abbrev S2048x128x3 : Shape := ⟨3, ![2048, 128, 3]⟩
abbrev S2048x3 : Shape := ⟨2, ![2048, 3]⟩
abbrev S2048x128 : Shape := ⟨2, ![2048, 128]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S2x128 : Shape := ⟨2, ![2, 128]⟩
abbrev S3x128 : Shape := ⟨2, ![3, 128]⟩
abbrev S3x2048x128 : Shape := ⟨3, ![3, 2048, 128]⟩
abbrev S3x262144 : Shape := ⟨2, ![3, 262144]⟩
abbrev S6x262144 : Shape := ⟨2, ![6, 262144]⟩
abbrev S2048x1 : Shape := ⟨2, ![2048, 1]⟩
abbrev S_ : Shape := ⟨0, ![]⟩
abbrev S8x128 : Shape := ⟨2, ![8, 128]⟩
abbrev S5x128 : Shape := ⟨2, ![5, 128]⟩
abbrev S6x16384 : Shape := ⟨2, ![6, 16384]⟩
abbrev S128x3 : Shape := ⟨2, ![128, 3]⟩
abbrev S128x128 : Shape := ⟨2, ![128, 128]⟩
abbrev S128x1 : Shape := ⟨2, ![128, 1]⟩
abbrev S16384x128 : Shape := ⟨2, ![16384, 128]⟩
abbrev S128x128x128 : Shape := ⟨3, ![128, 128, 128]⟩
abbrev S128x1x128 : Shape := ⟨3, ![128, 1, 128]⟩
abbrev S16384x256 : Shape := ⟨2, ![16384, 256]⟩
abbrev S128x128x1 : Shape := ⟨3, ![128, 128, 1]⟩
abbrev S128x128x256 : Shape := ⟨3, ![128, 128, 256]⟩
abbrev S256x256 : Shape := ⟨2, ![256, 256]⟩
abbrev S128x1x256 : Shape := ⟨3, ![128, 1, 256]⟩
abbrev S1x128 : Shape := ⟨2, ![1, 128]⟩
abbrev S1x2048x128 : Shape := ⟨3, ![1, 2048, 128]⟩

abbrev nBuf : Space → Nat
  | .hbm => 49
  | .vmem => 22
  | .smem => 0
  | _ => 0

abbrev bufTy : (tb : Table) → Fin (tcTables nBuf tb) → BufTy
  | .hbm, ⟨0, _⟩ => ⟨S2048, .i32⟩
  | .hbm, ⟨1, _⟩ => ⟨S2048x128x3, .f32⟩
  | .hbm, ⟨2, _⟩ => ⟨S2048x128x3, .f32⟩
  | .hbm, ⟨3, _⟩ => ⟨S2048, .i32⟩
  | .hbm, ⟨4, _⟩ => ⟨S2048, .i32⟩
  | .hbm, ⟨5, _⟩ => ⟨S2048x3, .f32⟩
  | .hbm, ⟨6, _⟩ => ⟨S2048x128, .i1⟩
  | .hbm, ⟨7, _⟩ => ⟨S6x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S512x256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S2x128, .f32⟩
  | .hbm, ⟨20, _⟩ => ⟨S2x128, .f32⟩
  | .hbm, ⟨21, _⟩ => ⟨S3x128, .f32⟩
  | .hbm, ⟨22, _⟩ => ⟨S3x2048x128, .f32⟩
  | .hbm, ⟨23, _⟩ => ⟨S3x262144, .f32⟩
  | .hbm, ⟨24, _⟩ => ⟨S3x2048x128, .f32⟩
  | .hbm, ⟨25, _⟩ => ⟨S3x262144, .f32⟩
  | .hbm, ⟨26, _⟩ => ⟨S6x262144, .f32⟩
  | .hbm, ⟨27, _⟩ => ⟨S6x262144, .bf16⟩
  | .hbm, ⟨28, _⟩ => ⟨S2048x128, .bf16⟩
  | .hbm, ⟨29, _⟩ => ⟨S2048x1, .i32⟩
  | .hbm, ⟨30, _⟩ => ⟨S2048x1, .i32⟩
  | .hbm, ⟨31, _⟩ => ⟨S2048x1, .i32⟩
  | .hbm, ⟨32, _⟩ => ⟨S6x128, .bf16⟩
  | .hbm, ⟨33, _⟩ => ⟨S3x128, .f32⟩
  | .hbm, ⟨34, _⟩ => ⟨S128x256, .bf16⟩
  | .hbm, ⟨35, _⟩ => ⟨S512x256, .bf16⟩
  | .hbm, ⟨36, _⟩ => ⟨S256x128, .bf16⟩
  | .hbm, ⟨37, _⟩ => ⟨S_, .f32⟩
  | .hbm, ⟨38, _⟩ => ⟨S6x128, .f32⟩
  | .hbm, ⟨39, _⟩ => ⟨S8x128, .f32⟩
  | .hbm, ⟨40, _⟩ => ⟨S_, .f32⟩
  | .hbm, ⟨41, _⟩ => ⟨S6x128, .f32⟩
  | .hbm, ⟨42, _⟩ => ⟨S8x128, .f32⟩
  | .hbm, ⟨43, _⟩ => ⟨S_, .f32⟩
  | .hbm, ⟨44, _⟩ => ⟨S5x128, .f32⟩
  | .hbm, ⟨45, _⟩ => ⟨S8x128, .f32⟩
  | .hbm, ⟨46, _⟩ => ⟨S2048x128, .f32⟩
  | .hbm, ⟨47, _⟩ => ⟨S1x2048x128, .f32⟩
  | .hbm, ⟨48, _⟩ => ⟨S1x2048x128, .i1⟩
  | .local _ .vmem, ⟨0, _⟩ => ⟨S6x16384, .bf16⟩
  | .local _ .vmem, ⟨1, _⟩ => ⟨S6x16384, .bf16⟩
  | .local _ .vmem, ⟨2, _⟩ => ⟨S128x3, .f32⟩
  | .local _ .vmem, ⟨3, _⟩ => ⟨S128x3, .f32⟩
  | .local _ .vmem, ⟨4, _⟩ => ⟨S128x128, .bf16⟩
  | .local _ .vmem, ⟨5, _⟩ => ⟨S128x128, .bf16⟩
  | .local _ .vmem, ⟨6, _⟩ => ⟨S128x1, .i32⟩
  | .local _ .vmem, ⟨7, _⟩ => ⟨S128x1, .i32⟩
  | .local _ .vmem, ⟨8, _⟩ => ⟨S128x1, .i32⟩
  | .local _ .vmem, ⟨9, _⟩ => ⟨S128x1, .i32⟩
  | .local _ .vmem, ⟨10, _⟩ => ⟨S128x1, .i32⟩
  | .local _ .vmem, ⟨11, _⟩ => ⟨S128x1, .i32⟩
  | .local _ .vmem, ⟨12, _⟩ => ⟨S6x128, .bf16⟩
  | .local _ .vmem, ⟨13, _⟩ => ⟨S3x128, .f32⟩
  | .local _ .vmem, ⟨14, _⟩ => ⟨S128x256, .bf16⟩
  | .local _ .vmem, ⟨15, _⟩ => ⟨S512x256, .bf16⟩
  | .local _ .vmem, ⟨16, _⟩ => ⟨S256x128, .bf16⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S128x128, .f32⟩
  | .local _ .vmem, ⟨21, _⟩ => ⟨S128x128, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_cst_0 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2048 : Shape := ⟨1, ![2048]⟩
abbrev S2048x128x3 : Shape := ⟨3, ![2048, 128, 3]⟩
abbrev S2048x3 : Shape := ⟨2, ![2048, 3]⟩
abbrev S2048x128 : Shape := ⟨2, ![2048, 128]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S2x128 : Shape := ⟨2, ![2, 128]⟩
abbrev S3x128 : Shape := ⟨2, ![3, 128]⟩
abbrev S2048x1x3 : Shape := ⟨3, ![2048, 1, 3]⟩
abbrev S2048x128x6 : Shape := ⟨3, ![2048, 128, 6]⟩
abbrev S2048x128x128 : Shape := ⟨3, ![2048, 128, 128]⟩
abbrev S1x1x128 : Shape := ⟨3, ![1, 1, 128]⟩
abbrev S_ : Shape := ⟨0, ![]⟩
abbrev S2048x128x256 : Shape := ⟨3, ![2048, 128, 256]⟩
abbrev S1x1x256 : Shape := ⟨3, ![1, 1, 256]⟩
abbrev S2048x128x1 : Shape := ⟨3, ![2048, 128, 1]⟩
abbrev S2048x256 : Shape := ⟨2, ![2048, 256]⟩
abbrev S2048x1x256 : Shape := ⟨3, ![2048, 1, 256]⟩
abbrev S2048x128x512 : Shape := ⟨3, ![2048, 128, 512]⟩
abbrev S2048x1 : Shape := ⟨2, ![2048, 1]⟩
abbrev S1 : Shape := ⟨1, ![1]⟩
abbrev S1x1 : Shape := ⟨2, ![1, 1]⟩
abbrev S1x2048x128 : Shape := ⟨3, ![1, 2048, 128]⟩

abbrev nBuf : Space → Nat
  | .hbm => 153
  | .vmem => 0
  | .smem => 0
  | _ => 0

abbrev hbmTy0_0 (i : Nat) : BufTy := match i % 128 with
  | 0 => ⟨S2048, .i32⟩
  | 1 => ⟨S2048x128x3, .f32⟩
  | 2 => ⟨S2048x128x3, .f32⟩
  | 3 => ⟨S2048, .i32⟩
  | 4 => ⟨S2048, .i32⟩
  | 5 => ⟨S2048x3, .f32⟩
  | 6 => ⟨S2048x128, .i1⟩
  | 7 => ⟨S6x128, .f32⟩
  | 8 => ⟨S128, .f32⟩
  | 9 => ⟨S128, .f32⟩
  | 10 => ⟨S128, .f32⟩
  | 11 => ⟨S128x256, .f32⟩
  | 12 => ⟨S256, .f32⟩
  | 13 => ⟨S512x256, .f32⟩
  | 14 => ⟨S256, .f32⟩
  | 15 => ⟨S256, .f32⟩
  | 16 => ⟨S256, .f32⟩
  | 17 => ⟨S256x128, .f32⟩
  | 18 => ⟨S128, .f32⟩
  | 19 => ⟨S2x128, .f32⟩
  | 20 => ⟨S2x128, .f32⟩
  | 21 => ⟨S3x128, .f32⟩
  | 22 => ⟨S2048x1x3, .f32⟩
  | 23 => ⟨S2048x128x3, .f32⟩
  | 24 => ⟨S2048x128x3, .f32⟩
  | 25 => ⟨S2048x128x6, .f32⟩
  | 26 => ⟨S2048x128x128, .f32⟩
  | 27 => ⟨S1x1x128, .f32⟩
  | 28 => ⟨S2048x128x128, .f32⟩
  | 29 => ⟨S2048x128x128, .f32⟩
  | 30 => ⟨S1x1x128, .f32⟩
  | 31 => ⟨S2048x128x128, .f32⟩
  | 32 => ⟨S2048x128x128, .f32⟩
  | 33 => ⟨S1x1x128, .f32⟩
  | 34 => ⟨S2048x128x128, .f32⟩
  | 35 => ⟨S2048x128x128, .f32⟩
  | 36 => ⟨S_, .f32⟩
  | 37 => ⟨S2048x128x128, .f32⟩
  | 38 => ⟨S2048x128x128, .f32⟩
  | 39 => ⟨S2048x128x256, .f32⟩
  | 40 => ⟨S1x1x256, .f32⟩
  | 41 => ⟨S2048x128x256, .f32⟩
  | 42 => ⟨S2048x128x256, .f32⟩
  | 43 => ⟨S2048x128x1, .i1⟩
  | 44 => ⟨S_, .f32⟩
  | 45 => ⟨S_, .f32⟩
  | 46 => ⟨S2048x128x256, .i1⟩
  | 47 => ⟨S2048x128x256, .f32⟩
  | 48 => ⟨S2048x128x256, .f32⟩
  | 49 => ⟨S_, .f32⟩
  | 50 => ⟨S2048x256, .f32⟩
  | 51 => ⟨S2048x1x256, .f32⟩
  | 52 => ⟨S2048x128x256, .f32⟩
  | 53 => ⟨S2048x128x512, .f32⟩
  | 54 => ⟨S2048x128x256, .f32⟩
  | 55 => ⟨S1x1x256, .f32⟩
  | 56 => ⟨S2048x128x256, .f32⟩
  | 57 => ⟨S2048x128x256, .f32⟩
  | 58 => ⟨S1x1x256, .f32⟩
  | 59 => ⟨S2048x128x256, .f32⟩
  | 60 => ⟨S2048x128x256, .f32⟩
  | 61 => ⟨S1x1x256, .f32⟩
  | 62 => ⟨S2048x128x256, .f32⟩
  | 63 => ⟨S2048x128x256, .f32⟩
  | 64 => ⟨S_, .f32⟩
  | 65 => ⟨S2048x128x256, .f32⟩
  | 66 => ⟨S2048x128x256, .f32⟩
  | 67 => ⟨S2048x128x128, .f32⟩
  | 68 => ⟨S1x1x128, .f32⟩
  | 69 => ⟨S2048x128x128, .f32⟩
  | 70 => ⟨S2048x128x128, .f32⟩
  | 71 => ⟨S2048x128x1, .i1⟩
  | 72 => ⟨S_, .f32⟩
  | 73 => ⟨S_, .f32⟩
  | 74 => ⟨S2048x128x128, .i1⟩
  | 75 => ⟨S2048x128x128, .f32⟩
  | 76 => ⟨S2048x128x128, .f32⟩
  | 77 => ⟨S_, .f32⟩
  | 78 => ⟨S2048x128, .f32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S1, .i32⟩
  | 88 => ⟨S_, .i32⟩
  | 89 => ⟨S2048x1, .i32⟩
  | 90 => ⟨S2048x1, .i1⟩
  | 91 => ⟨S1x1, .i32⟩
  | 92 => ⟨S2048x1, .i32⟩
  | 93 => ⟨S2048x1, .i1⟩
  | 94 => ⟨S2048x1, .i1⟩
  | 95 => ⟨S_, .i1⟩
  | 96 => ⟨S2048, .i1⟩
  | 97 => ⟨S2048x128, .f32⟩
  | 98 => ⟨S2048x128, .i1⟩
  | 99 => ⟨S_, .f32⟩
  | 100 => ⟨S2048x128, .f32⟩
  | 101 => ⟨S2048x128, .f32⟩
  | 102 => ⟨S2048x128, .f32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S1, .i32⟩
  | 112 => ⟨S_, .i32⟩
  | 113 => ⟨S2048x1, .i32⟩
  | 114 => ⟨S2048x1, .i1⟩
  | 115 => ⟨S1x1, .i32⟩
  | 116 => ⟨S2048x1, .i32⟩
  | 117 => ⟨S2048x1, .i1⟩
  | 118 => ⟨S2048x1, .i1⟩
  | 119 => ⟨S_, .i1⟩
  | 120 => ⟨S2048, .i1⟩
  | 121 => ⟨S2048x128, .f32⟩
  | 122 => ⟨S2048x128, .i1⟩
  | 123 => ⟨S_, .f32⟩
  | 124 => ⟨S2048x128, .f32⟩
  | 125 => ⟨S2048x128, .f32⟩
  | 126 => ⟨S2048x128, .f32⟩
  | 127 => ⟨S_, .i32⟩
  | _ => ⟨S2048, .i32⟩

abbrev hbmTy0_1 (i : Nat) : BufTy := match i % 128 with
  | 0 => ⟨S2048, .i32⟩
  | 1 => ⟨S2048, .i1⟩
  | 2 => ⟨S_, .i32⟩
  | 3 => ⟨S2048, .i32⟩
  | 4 => ⟨S2048, .i32⟩
  | 5 => ⟨S2048, .i32⟩
  | 6 => ⟨S2048x1, .i32⟩
  | 7 => ⟨S1, .i32⟩
  | 8 => ⟨S_, .i32⟩
  | 9 => ⟨S2048x1, .i32⟩
  | 10 => ⟨S2048x1, .i1⟩
  | 11 => ⟨S1x1, .i32⟩
  | 12 => ⟨S2048x1, .i32⟩
  | 13 => ⟨S2048x1, .i1⟩
  | 14 => ⟨S2048x1, .i1⟩
  | 15 => ⟨S_, .i1⟩
  | 16 => ⟨S2048, .i1⟩
  | 17 => ⟨S2048x128, .f32⟩
  | 18 => ⟨S2048x128, .i1⟩
  | 19 => ⟨S_, .f32⟩
  | 20 => ⟨S2048x128, .f32⟩
  | 21 => ⟨S2048x128, .f32⟩
  | 22 => ⟨S2048x128, .f32⟩
  | 23 => ⟨S1x2048x128, .f32⟩
  | 24 => ⟨S1x2048x128, .i1⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call0_cst : Ref sig .tc := ⟨.hbm, 36, rfl⟩
abbrev main_call0_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v20 : Ref sig .tc := ⟨.hbm, 48, rfl⟩
abbrev main_cst_0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call2_cst : Ref sig .tc := ⟨.hbm, 64, rfl⟩
abbrev main_call2_v0 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_1 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v41 : Ref sig .tc := ⟨.hbm, 76, rfl⟩
abbrev main_cst_2 : Ref sig .tc := ⟨.hbm, 77, rfl⟩
abbrev main_v42 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_v14 : Ref sig .tc := ⟨.hbm, 98, rfl⟩
abbrev main_call4_cst : Ref sig .tc := ⟨.hbm, 99, rfl⟩
abbrev main_call4_v15 : Ref sig .tc := ⟨.hbm, 100, rfl⟩
abbrev main_v43 : Ref sig .tc := ⟨.hbm, 101, rfl⟩
abbrev main_v44 : Ref sig .tc := ⟨.hbm, 102, rfl⟩
abbrev main_call5_c : Ref sig .tc := ⟨.hbm, 103, rfl⟩
abbrev main_call5_v0 : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_c_1 : Ref sig .tc := ⟨.hbm, 111, rfl⟩
abbrev main_call5_c_2 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_3 : Ref sig .tc := ⟨.hbm, 119, rfl⟩
abbrev main_call5_v12 : Ref sig .tc := ⟨.hbm, 120, rfl⟩
abbrev main_call5_v13 : Ref sig .tc := ⟨.hbm, 121, rfl⟩
abbrev main_call5_v14 : Ref sig .tc := ⟨.hbm, 122, rfl⟩
abbrev main_call5_cst : Ref sig .tc := ⟨.hbm, 123, rfl⟩
abbrev main_call5_v15 : Ref sig .tc := ⟨.hbm, 124, rfl⟩
abbrev main_v45 : Ref sig .tc := ⟨.hbm, 125, rfl⟩
abbrev main_v46 : Ref sig .tc := ⟨.hbm, 126, rfl⟩
abbrev main_call6_c : Ref sig .tc := ⟨.hbm, 127, rfl⟩
abbrev main_call6_v0 : Ref sig .tc := ⟨.hbm, 128, rfl⟩
abbrev main_call6_v1 : Ref sig .tc := ⟨.hbm, 129, rfl⟩
abbrev main_call6_c_0 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_call6_v5 : Ref sig .tc := ⟨.hbm, 134, rfl⟩
abbrev main_call6_c_1 : Ref sig .tc := ⟨.hbm, 135, rfl⟩
abbrev main_call6_c_2 : Ref sig .tc := ⟨.hbm, 136, rfl⟩
abbrev main_call6_v6 : Ref sig .tc := ⟨.hbm, 137, rfl⟩
abbrev main_call6_v7 : Ref sig .tc := ⟨.hbm, 138, rfl⟩
abbrev main_call6_v8 : Ref sig .tc := ⟨.hbm, 139, rfl⟩
abbrev main_call6_v9 : Ref sig .tc := ⟨.hbm, 140, rfl⟩
abbrev main_call6_v10 : Ref sig .tc := ⟨.hbm, 141, rfl⟩
abbrev main_call6_v11 : Ref sig .tc := ⟨.hbm, 142, rfl⟩
abbrev main_call6_c_3 : Ref sig .tc := ⟨.hbm, 143, rfl⟩
abbrev main_call6_v12 : Ref sig .tc := ⟨.hbm, 144, rfl⟩
abbrev main_call6_v13 : Ref sig .tc := ⟨.hbm, 145, rfl⟩
abbrev main_call6_v14 : Ref sig .tc := ⟨.hbm, 146, rfl⟩
abbrev main_call6_cst : Ref sig .tc := ⟨.hbm, 147, rfl⟩
abbrev main_call6_v15 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩

abbrev nD : Nat := 1
abbrev τ : Topo := Topo.v7x

variable {F : FTy → Type} [FloatOps F]
-- ==== Proof.Lane.lean ====
module

public import Idealize.ShloMosaic.Lib.Pointwise

@[expose] public section

set_option maxRecDepth 16384

noncomputable section

/-! # One lane's encoder, on coordinates

A lane has 128 points. The functions here say, in extended reals and with no program in sight, what the two
layers of the encoder compute for one lane from its first hidden layer; both programs are read as these. -/

namespace Cert.Lane

open Idealize.ShloMosaic

/-- The largest of the 128 values of a lane's points. -/
def top (f : Fin 128 → EReal) : EReal := Finset.univ.fold max ⊥ f

/-- The first hidden layer at a point: position and direction through their weights, less the lane's centre through
    the position's, rectified. -/
def hid1 (pos vec : Fin 128 → Fin 3 → EReal) (ce : Fin 3 → EReal) (wp wv : Fin 3 → Fin 128 → EReal) (p k : Fin 128) : EReal :=
  max ((∑ f, pos p f * wp f k) + (∑ f, vec p f * wv f k) - ∑ f, ce f * wp f k) 0

/-- The second hidden layer at a point: a product with `w2`, times the point's mask value. -/
def hid2 (h1 : Fin 128 → Fin 128 → EReal) (w2 : Fin 128 → Fin 256 → EReal) (mk : Fin 128 → EReal) (p : Fin 128) (j : Fin 256) : EReal :=
  (∑ k, h1 p k * w2 k j) * mk p

/-- The third hidden layer at a point: the point's own features through `wa` plus the lane's pooled features
    through `wb`, rectified. -/
def hid3 (h2 : Fin 128 → Fin 256 → EReal) (wa wb : Fin 256 → Fin 256 → EReal) (p : Fin 128) (j : Fin 256) : EReal :=
  max ((∑ k, h2 p k * wa k j) + ∑ k, top (fun q => h2 q k) * wb k j) 0

/-- The lane's code: the third layer through `w4`, masked, pooled over the lane's points. -/
def code (h3 : Fin 128 → Fin 256 → EReal) (w4 : Fin 256 → Fin 128 → EReal) (mk : Fin 128 → EReal) (l : Fin 128) : EReal :=
  top fun p => (∑ k, h3 p k * w4 k l) * mk p

/-- The lane's code from its first hidden layer. -/
def enc (h1 : Fin 128 → Fin 128 → EReal) (w2 : Fin 128 → Fin 256 → EReal) (wa wb : Fin 256 → Fin 256 → EReal)
    (w4 : Fin 256 → Fin 128 → EReal) (mk : Fin 128 → EReal) (l : Fin 128) : EReal :=
  code (hid3 (hid2 h1 w2 mk) wa wb) w4 mk l

/-- One of two values, the first when the word is zero. -/
def pick2 (w : BitVec 32) (a b : EReal) : EReal := Scalar.select (IntOp.cmpi .eq w 0#32) a b

/-- One of three values, by the word being zero, one or anything else. -/
def pick3 (w : BitVec 32) (a b c : EReal) : EReal :=
  Scalar.select (IntOp.cmpi .eq w 0#32) a (Scalar.select (IntOp.cmpi .eq w 1#32) b c)

/-- The mask's word as a factor: one where the word is set, zero elsewhere. -/
def factor (b : BitVec 1) : EReal := ((b.toNat : ℝ) : EReal)

/-- Choosing a value or zero by the mask's word is multiplying by its factor. -/
theorem select_eq_mul (b : BitVec 1) (x : EReal) : Scalar.select b x 0 = x * factor b := by
  rcases BitVec.eq_zero_or_eq_one b with rfl | rfl
  · simp [Scalar.select, factor]
  · simp [Scalar.select, factor]

/-- A lane's output depends only on the values it is made of. -/
theorem out_congr (l : Fin 128) {h h' : Fin 128 → Fin 128 → EReal} {w2 w2' : Fin 128 → Fin 256 → EReal} {wa wa' wb wb' : Fin 256 → Fin 256 → EReal}
    {w4 w4' : Fin 256 → Fin 128 → EReal} {mk mk' : Fin 128 → EReal} {t t' c c' d d' : BitVec 32} {t0 t0' t1 t1' c0 c0' c1 c1' d0 d0' d1 d1' d2 d2' : EReal}
    (eh : h = h') (e2 : ∀ k j, w2 k j = w2' k j) (ea : ∀ k j, wa k j = wa' k j) (eb : ∀ k j, wb k j = wb' k j) (e4 : ∀ k j, w4 k j = w4' k j)
    (em : ∀ p, mk p = mk' p) (et : t = t') (et0 : t0 = t0') (et1 : t1 = t1') (ec : c = c') (ec0 : c0 = c0') (ec1 : c1 = c1')
    (ed : d = d') (ed0 : d0 = d0') (ed1 : d1 = d1') (ed2 : d2 = d2') :
    enc h w2 wa wb w4 mk l + (pick2 t t0 t1 + pick2 c c0 c1 + pick3 d d0 d1 d2)
      = enc h' w2' wa' wb' w4' mk' l + (pick2 t' t0' t1' + pick2 c' c0' c1' + pick3 d' d0' d1' d2') := by
  obtain rfl : w2 = w2' := funext₂ e2
  obtain rfl : wa = wa' := funext₂ ea
  obtain rfl : wb = wb' := funext₂ eb
  obtain rfl : w4 = w4' := funext₂ e4
  obtain rfl : mk = mk' := funext em
  subst eh et et0 et1 ec ec0 ec1 ed ed0 ed1 ed2
  rfl

/-- The binary32 word of minus infinity, read as an extended real. -/
theorem ofBits_neg_inf32 : Ideal.ofBits FTy.f32 0xFF800000#32 = (⊥ : EReal) := by
  simp [Ideal.ofBits, Ideal.ieee]

/-- The bfloat16 word of minus infinity, read as an extended real. -/
theorem ofBits_neg_inf16 : Ideal.ofBits FTy.bf16 0xFF80#16 = (⊥ : EReal) := by
  simp [Ideal.ofBits, Ideal.ieee]

/-- Subtracting a real centre before multiplying by a real weight is multiplying first and subtracting the
    centre's product, for any extended real position. -/
theorem sub_mul_real (x : EReal) (r w : ℝ) : (x - r) * w = x * w - ((r * w : ℝ) : EReal) := by
  induction x with
  | coe x => rw [← EReal.coe_sub, ← EReal.coe_mul, ← EReal.coe_mul, ← EReal.coe_sub, sub_mul]
  | bot =>
    rcases lt_trichotomy w 0 with h | h | h
    · rw [EReal.bot_sub, EReal.bot_mul_coe_of_neg h, EReal.top_sub_coe]
    · subst h; simp
    · simp [EReal.bot_sub, EReal.bot_mul_coe_of_pos h]
  | top =>
    rcases lt_trichotomy w 0 with h | h | h
    · simp [EReal.top_sub_coe, EReal.top_mul_coe_of_neg h]
    · subst h; simp
    · rw [EReal.top_sub_coe, EReal.top_mul_coe_of_pos h, EReal.top_sub_coe]

/-- Taking real numbers away before adding is taking their sum away afterwards. -/
theorem sub_add_sub_real (a b : EReal) (r s : ℝ) : (a - r) + (b - s) = (a + b) - ((r + s : ℝ) : EReal) := by
  rw [sub_eq_add_neg, sub_eq_add_neg, sub_eq_add_neg, EReal.coe_add, EReal.neg_add (by simp) (by simp), sub_eq_add_neg]
  ac_rfl

/-- The first layer's product of the three centred positions with real weights is the product of the positions
    less the product of the real centre; the remaining features' product may be any extended real. -/
theorem centred (x : Fin 3 → EReal) (r w : Fin 3 → ℝ) (v : EReal) :
    (∑ k, (x k - r k) * (w k : EReal)) + v = (∑ k, x k * (w k : EReal)) + v - ∑ k, (r k : EReal) * (w k : EReal) := by
  simp only [Fin.sum_univ_three, sub_mul_real]
  rw [sub_add_sub_real, sub_add_sub_real, ← EReal.coe_mul, ← EReal.coe_mul, ← EReal.coe_mul, ← EReal.coe_add, ← EReal.coe_add,
    sub_eq_add_neg, sub_eq_add_neg]
  ac_rfl

/-- An extended real whose absolute value is below the binary32 word of plus infinity is a real number. -/
theorem real_of_abs_lt {φ : FTy} {x : EReal} (h : FloatOps.absf (F := Ideal) (φ := φ) x < Ideal.ofBits FTy.f32 0x7F800000#32) : ∃ r : ℝ, x = r := by
  have ht : Ideal.ofBits FTy.f32 0x7F800000#32 = (⊤ : EReal) := by simp [Ideal.ofBits, Ideal.ieee]
  rw [ht, Ideal.absf_def, max_lt_iff] at h
  refine ⟨x.toReal, (EReal.coe_toReal h.1.ne ?_).symm⟩
  rintro rfl
  simp at h

end Cert.Lane

end
-- ==== Proof.Block.lean ====
module

public import proofs.«01_k».proof.Proof.Gen.KernelIdeal.Skeleton
public import Idealize.ShloMosaic.Lib.Pointwise
public import proofs.«01_k».proof.Proof.Lane

@[expose] public section

set_option maxRecDepth 16384

noncomputable section

/-! # What one grid step of the kernel computes

A grid step holds 128 lanes; its value at lane `r` and output channel `l`, over the blocks it loads. -/

namespace Cert.KernelIdeal.Block

open Idealize.ShloMosaic Idealize.ShloMosaic.TcCoe Idealize.SL.Sem
open Cert.KernelIdeal Cert.KernelIdeal.Gen

/-- The row of point `p` of lane `r` when lanes and points are laid out in one axis. -/
abbrev row (r p : Fin 128) : Fin 16384 := ⟨r.val * 128 + p.val, by omega⟩

/-- The kernel's first hidden layer of one lane: the six features through the weights, less the centre's share. -/
def hid1 (x : Vec Ideal S6x16384 .bf16) (w1 : Vec Ideal S6x128 .bf16) (ce : Vec Ideal S128x3 .f32) (wc : Vec Ideal S3x128 .f32)
    (r p k : Fin 128) : EReal :=
  max ((∑ f : Fin 6, x (ix2 f (row r p)) * w1 (ix2 f k)) - ∑ f : Fin 3, ce (ix2 r f) * wc (ix2 f k)) 0

section
variable (v0 : Vec Ideal S6x16384 .bf16) (v2 : Vec Ideal S6x128 .bf16) (v5 : Vec Ideal S128x3 .f32) (v6 : Vec Ideal S3x128 .f32)
    (v18 : Vec Ideal S128x256 .bf16) (v22 : Vec Ideal S128x128 .bf16)

/-- The second hidden layer's payload is the lane's second layer. -/
theorem pay3_at (r p : Fin 128) (j : Fin 256) :
    k0_pay3 (F := Ideal) v0 v2 v5 v6 v18 v22 (ix3 r p j)
      = Lane.hid2 (hid1 v0 v2 v5 v6 r) (fun k j => v18 (ix2 k j)) (fun p => v22 (ix2 r p)) p j := by
  pointwise [k0_pay3, k0_pay2]
  rfl

/-- The third layer's part from a point's own features. -/
theorem pay4_at (v30 : Vec Ideal S256x256 .bf16) (r p : Fin 128) (j : Fin 256) :
    k0_pay4 (F := Ideal) v0 v2 v5 v6 v18 v22 v30 (ix2 (row r p) j)
      = ∑ k, Lane.hid2 (hid1 v0 v2 v5 v6 r) (fun k j => v18 (ix2 k j)) (fun p => v22 (ix2 r p)) p k * v30 (ix2 k j) := by
  pointwise [k0_pay4]
  refine Finset.sum_congr rfl fun k _ => ?_
  congr 1
  rw [← pay3_at]
  congr 2
  · refine Fin.ext ?_
    show (r.val * 128 + p.val) / 128 = r.val
    omega
  · refine Fin.ext ?_
    show (r.val * 128 + p.val) % 128 = p.val
    omega

/-- The third layer's part from the lane's pooled features. -/
theorem pay5_at (v30 : Vec Ideal S256x256 .bf16) (r : Fin 128) (j : Fin 256) :
    k0_pay5 (F := Ideal) v0 v2 v5 v6 v18 v22 v30 (ix2 r j)
      = ∑ k, Lane.top (fun q => Lane.hid2 (hid1 v0 v2 v5 v6 r) (fun k j => v18 (ix2 k j)) (fun p => v22 (ix2 r p)) q k) * v30 (ix2 k j) := by
  pointwise [k0_pay5]
  simp only [Lane.ofBits_neg_inf16, pay3_at]
  rfl
end

/-- The last layer, masked and pooled over the lane's points. -/
theorem pay6_at (v22 : Vec Ideal S128x128 .bf16) (v32 : FVec Ideal S16384x256 .f32) (v35 : FVec Ideal S128x256 .f32) (v45 : Vec Ideal S256x128 .bf16)
    (r l : Fin 128) :
    k0_pay6 (F := Ideal) (k0_pay2 v22) v32 v35 v45 (ix2 r l)
      = Lane.code (fun p k => max (v32 (ix2 (row r p) k) + v35 (ix2 r k)) 0) (fun k l => v45 (ix2 k l)) (fun p => v22 (ix2 r p)) l := by
  pointwise [k0_pay6, k0_pay2]
  simp only [Lane.ofBits_neg_inf16]
  rfl

/-- The code plus the three attribute rows, each chosen by the lane's word. -/
theorem pay1_at (v53 : FVec Ideal S128x128 .f32) (t c : Vec Ideal S128x1 .i32) (v58 v60 : Vec Ideal S1x128 .f32) (v73 v75 : Vec Ideal S1x128 .f32)
    (v85 : Vec Ideal S128x1 .i32) (v89 : Vec Ideal S1x128 .f32) (v93 : Vec Ideal S1x128 .f32) (v95 : Vec Ideal S1x128 .f32) (r l : Fin 128) :
    k0_pay1 (F := Ideal) v53 (k0_pay7 t v58 v60) (k0_pay8 c) (k0_pay9 v73) (k0_pay10 v75) v85 v89 v93 v95 (ix2 r l)
      = v53 (ix2 r l) + (Lane.pick2 (t (ix2 r 0)) (v58 (ix2 0 l)) (v60 (ix2 0 l)) + Lane.pick2 (c (ix2 r 0)) (v73 (ix2 0 l)) (v75 (ix2 0 l))
          + Lane.pick3 (v85 (ix2 r 0)) (v89 (ix2 0 l)) (v93 (ix2 0 l)) (v95 (ix2 0 l))) := by
  pointwise [k0_pay1, k0_pay7, k0_pay8, k0_pay9, k0_pay10]
  rfl

/-- One lane's output of a grid step: the lane's code plus its three attribute rows. -/
theorem block_at (v0 : Vec Ideal S6x16384 .bf16) (v2 : Vec Ideal S6x128 .bf16) (v5 : Vec Ideal S128x3 .f32) (v6 : Vec Ideal S3x128 .f32)
    (v18 : Vec Ideal S128x256 .bf16) (v22 : Vec Ideal S128x128 .bf16) (wa wb : Vec Ideal S256x256 .bf16) (w4 : Vec Ideal S256x128 .bf16)
    (t c : Vec Ideal S128x1 .i32) (v58 v60 : Vec Ideal S1x128 .f32) (v73 v75 : Vec Ideal S1x128 .f32)
    (v85 : Vec Ideal S128x1 .i32) (v89 : Vec Ideal S1x128 .f32) (v93 : Vec Ideal S1x128 .f32) (v95 : Vec Ideal S1x128 .f32) (r l : Fin 128) :
    k0_pay1 (F := Ideal) (k0_pay6 (k0_pay2 v22) (k0_pay4 v0 v2 v5 v6 v18 v22 wa) (k0_pay5 v0 v2 v5 v6 v18 v22 wb) w4)
        (k0_pay7 t v58 v60) (k0_pay8 c) (k0_pay9 v73) (k0_pay10 v75) v85 v89 v93 v95 (ix2 r l)
      = Lane.enc (hid1 v0 v2 v5 v6 r) (fun k j => v18 (ix2 k j)) (fun k j => wa (ix2 k j)) (fun k j => wb (ix2 k j)) (fun k l => w4 (ix2 k l))
            (fun p => v22 (ix2 r p)) l
          + (Lane.pick2 (t (ix2 r 0)) (v58 (ix2 0 l)) (v60 (ix2 0 l)) + Lane.pick2 (c (ix2 r 0)) (v73 (ix2 0 l)) (v75 (ix2 0 l))
            + Lane.pick3 (v85 (ix2 r 0)) (v89 (ix2 0 l)) (v93 (ix2 0 l)) (v95 (ix2 0 l))) := by
  rw [pay1_at, pay6_at]
  simp only [pay4_at, pay5_at]
  rfl

end Cert.KernelIdeal.Block

end
-- ==== Proof.Entry.lean ====
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Lane

@[expose] public section

set_option maxRecDepth 16384

noncomputable section

/-! # What the grid steps start from

The arrays the windows read, at an index, as the arguments: the host operations before the steps lay points out in one
axis, put positions over directions, turn the mask into a factor and pad the attribute tables. -/

namespace Cert.KernelIdeal.Entry

open Idealize.ShloMosaic Idealize.ShloMosaic.TcCoe Idealize.SL.Sem
open Cert.KernelIdeal Cert.KernelIdeal.Gen

variable (m : (ℓ : Loc nD τ sig) → Buf (Elt Ideal) ℓ) (c : Dev nD)

/-- What a window's array holds when the steps start: what the host operations before them leave. -/
theorem V_eq (b : Ref sig .tc) : V m c b = StableHlo.after hostOps0 (fun b => m (c, b)) (Proc.devRef .tc b) := by
  show StableHlo.after (List.flatten [hostOps0]) _ _ = _
  rw [List.flatten_singleton]

/-- The first three feature rows are the positions, lanes and points in one axis. -/
theorem pos_at (f : Fin 3) (q : Fin 262144) :
    (show FVec Ideal S6x262144 .bf16 from V m c main_v5) (ix2 ⟨f.val, by omega⟩ q)
      = (show FVec Ideal S2048x128x3 .f32 from m ((c.tc : Thread nD τ).loc main_arg1)) (ix3 ⟨q.val / 128, by omega⟩ ⟨q.val % 128, by omega⟩ f) := by
  rw [V_eq]
  entry_read
  pointwise

/-- The last three feature rows are the directions. -/
theorem vec_at (f : Fin 3) (q : Fin 262144) :
    (show FVec Ideal S6x262144 .bf16 from V m c main_v5) (ix2 ⟨3 + f.val, by omega⟩ q)
      = (show FVec Ideal S2048x128x3 .f32 from m ((c.tc : Thread nD τ).loc main_arg2)) (ix3 ⟨q.val / 128, by omega⟩ ⟨q.val % 128, by omega⟩ f) := by
  rw [V_eq]
  entry_read
  pointwise

/-- The mask's array holds the mask's factor. -/
theorem mask_at (n : Fin 2048) (p : Fin 128) : (show FVec Ideal S2048x128 .bf16 from V m c main_v6) (ix2 n p)
    = Lane.factor ((show IVec S2048x128 1 from m ((c.tc : Thread nD τ).loc main_arg6)) (ix2 n p)) := by
  rw [V_eq]
  entry_read
  pointwise
  rfl

/-- The type words, one column. -/
theorem type_at (n : Fin 2048) (a : Fin 1) : (show IVec S2048x1 32 from V m c main_v7) (ix2 n a)
    = (show IVec S2048 32 from m ((c.tc : Thread nD τ).loc main_arg0)) (ix1 n) := by
  rw [V_eq]
  entry_read
  pointwise

/-- The control words, one column. -/
theorem control_at (n : Fin 2048) (a : Fin 1) : (show IVec S2048x1 32 from V m c main_v8) (ix2 n a)
    = (show IVec S2048 32 from m ((c.tc : Thread nD τ).loc main_arg3)) (ix1 n) := by
  rw [V_eq]
  entry_read
  pointwise

/-- The direction words, one column. -/
theorem direction_at (n : Fin 2048) (a : Fin 1) : (show IVec S2048x1 32 from V m c main_v9) (ix2 n a)
    = (show IVec S2048 32 from m ((c.tc : Thread nD τ).loc main_arg4)) (ix1 n) := by
  rw [V_eq]
  entry_read
  pointwise

/-- The first layer's weights. -/
theorem w1_at (f : Fin 6) (k : Fin 128) : (show FVec Ideal S6x128 .bf16 from V m c main_v10) (ix2 f k)
    = (show FVec Ideal S6x128 .f32 from m ((c.tc : Thread nD τ).loc main_arg7)) (ix2 f k) := by
  rw [V_eq]
  entry_read
  pointwise

/-- The positions' weights, kept apart for the centre. -/
theorem wc_at (f : Fin 3) (k : Fin 128) : (show FVec Ideal S3x128 .f32 from V m c main_v11) (ix2 f k)
    = (show FVec Ideal S6x128 .f32 from m ((c.tc : Thread nD τ).loc main_arg7)) (ix2 ⟨f.val, by omega⟩ k) := by
  rw [V_eq]
  entry_read
  pointwise

/-- The second layer's weights. -/
theorem w2_at (f : Fin 128) (k : Fin 256) : (show FVec Ideal S128x256 .bf16 from V m c main_v12) (ix2 f k)
    = (show FVec Ideal S128x256 .f32 from m ((c.tc : Thread nD τ).loc main_arg11)) (ix2 f k) := by
  rw [V_eq]
  entry_read
  pointwise

/-- The third layer's weights. -/
theorem w3_at (f : Fin 512) (k : Fin 256) : (show FVec Ideal S512x256 .bf16 from V m c main_v13) (ix2 f k)
    = (show FVec Ideal S512x256 .f32 from m ((c.tc : Thread nD τ).loc main_arg13)) (ix2 f k) := by
  rw [V_eq]
  entry_read
  pointwise

/-- The last layer's weights. -/
theorem w4_at (f : Fin 256) (k : Fin 128) : (show FVec Ideal S256x128 .bf16 from V m c main_v14) (ix2 f k)
    = (show FVec Ideal S256x128 .f32 from m ((c.tc : Thread nD τ).loc main_arg17)) (ix2 f k) := by
  rw [V_eq]
  entry_read
  pointwise

/-- The padded type table's first two rows are the table. -/
theorem typeTab_at (f : Fin 2) (l : Fin 128) : (show FVec Ideal S8x128 .f32 from V m c main_v16) (ix2 ⟨f.val, by omega⟩ l)
    = (show FVec Ideal S2x128 .f32 from m ((c.tc : Thread nD τ).loc main_arg19)) (ix2 f l) := by
  rw [V_eq]
  entry_read
  pointwise

/-- The padded control table's first two rows are the table. -/
theorem controlTab_at (f : Fin 2) (l : Fin 128) : (show FVec Ideal S8x128 .f32 from V m c main_v18) (ix2 ⟨f.val, by omega⟩ l)
    = (show FVec Ideal S2x128 .f32 from m ((c.tc : Thread nD τ).loc main_arg20)) (ix2 f l) := by
  rw [V_eq]
  entry_read
  pointwise

/-- The padded direction table's first three rows are the table. -/
theorem directionTab_at (f : Fin 3) (l : Fin 128) : (show FVec Ideal S8x128 .f32 from V m c main_v20) (ix2 ⟨f.val, by omega⟩ l)
    = (show FVec Ideal S3x128 .f32 from m ((c.tc : Thread nD τ).loc main_arg21)) (ix2 f l) := by
  rw [V_eq]
  entry_read
  pointwise

end Cert.KernelIdeal.Entry

end
-- ==== Proof.Take.lean ====
module

public import Idealize.ShloMosaic.Lib.Pointwise
public import Idealize.ShloMosaic.Lib.ValueIdxCore

@[expose] public section

set_option maxRecDepth 16384

noncomputable section

/-! # A row of a table, chosen by a word

The reference takes rows of a small table by a gather; with the word in range the row is the word's. -/

namespace Cert.Take

open Idealize.ShloMosaic

/-- The dimension numbers of taking whole rows of an `N` by `L` table, one row per entry of an `M` by one column of words. -/
abbrev rowDims (N M L : Nat) (wf : GatherDims.WF ⟨2, ![N, L]⟩ ⟨2, ![M, 1]⟩ ⟨2, ![M, L]⟩ [1] [0] [] [0] [] 1 ![1, L]) :
    GatherDims ⟨2, ![N, L]⟩ ⟨2, ![M, 1]⟩ ⟨2, ![M, L]⟩ where
  offsetDims := [1]
  collapsedSliceDims := [0]
  operandBatchingDims := []
  startIndicesBatchingDims := []
  startIndexMap := [0]
  indexVectorDim := 1
  sliceSizes := ![1, L]
  wf := wf

/-- The gathered entry is the table's, at the row the word names, clamped into the table. -/
theorem gather_row {α : Type} {N M L w : Nat} (hN : 0 < N)
    (wf : GatherDims.WF ⟨2, ![N, L]⟩ ⟨2, ![M, 1]⟩ ⟨2, ![M, L]⟩ [1] [0] [] [0] [] 1 ![1, L])
    (x : (⟨2, ![N, L]⟩ : Shape).Idx → α) (idx : IVec ⟨2, ![M, 1]⟩ w) (i : Fin M) (l : Fin L) :
    Host.gather (rowDims N M L wf) x idx (ix2 i l) = x (ix2 ⟨min (idx (ix2 i 0)).toInt.toNat (N - 1), by omega⟩ l) := by
  unfold Host.gather
  congr 1
  funext a
  refine Fin.ext ?_
  show (rowDims N M L wf).start (ix2 i l) idx a + (rowDims N M L wf).batchCoord (ix2 i l) a + (rowDims N M L wf).offCoord (ix2 i l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N M L wf).startIndexMap from List.mem_singleton.mpr rfl)]
    have hsi : (rowDims N M L wf).siIdx (ix2 i l) ⟨List.idxOf (0 : Fin 2) (rowDims N M L wf).startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · unfold GatherDims.start
    rw [dif_neg (show (1 : Fin 2) ∉ (rowDims N M L wf).startIndexMap from by simp [rowDims])]
    unfold GatherDims.offCoord
    rw [dif_pos ((GatherDims.mem_sKept _ _).mpr ⟨by simp [rowDims], by simp [rowDims]⟩)]
    simp only [Nat.zero_add]
    rfl

/-- A truth value written as one bit is one only when it is true. -/
theorem ofBool_one {p : Bool} (h : BitVec.ofBool p = 1#1) : p = true := by
  cases p
  · exact absurd h (by decide)
  · rfl

/-- A word at least zero and below two is zero or one. -/
theorem word_two {w : BitVec 32} (h0 : IntOp.cmpi .sge w 0#32 = 1#1) (h2 : IntOp.cmpi .slt w 2#32 = 1#1) : w = 0#32 ∨ w = 1#32 := by
  have a : 0 ≤ w.toInt := of_decide_eq_true (ofBool_one h0)
  have b : w.toInt < 2 := of_decide_eq_true (ofBool_one h2)
  have : w.toInt = 0 ∨ w.toInt = 1 := by omega
  rcases this with h | h
  · exact .inl (BitVec.eq_of_toInt_eq (by simpa using h))
  · exact .inr (BitVec.eq_of_toInt_eq (by simpa using h))

/-- A word at least zero and below three is zero, one or two. -/
theorem word_three {w : BitVec 32} (h0 : IntOp.cmpi .sge w 0#32 = 1#1) (h2 : IntOp.cmpi .slt w 3#32 = 1#1) :
    w = 0#32 ∨ w = 1#32 ∨ w = 2#32 := by
  have a : 0 ≤ w.toInt := of_decide_eq_true (ofBool_one h0)
  have b : w.toInt < 3 := of_decide_eq_true (ofBool_one h2)
  have : w.toInt = 0 ∨ w.toInt = 1 ∨ w.toInt = 2 := by omega
  rcases this with h | h | h
  · exact .inl (BitVec.eq_of_toInt_eq (by simpa using h))
  · exact .inr (.inl (BitVec.eq_of_toInt_eq (by simpa using h)))
  · exact .inr (.inr (BitVec.eq_of_toInt_eq (by simpa using h)))

/-- Two words' bitwise conjunction of one bit is one only when both are. -/
theorem andi_one {a b : BitVec 1} (h : IntOp.andi a b = 1#1) : a = 1#1 ∧ b = 1#1 := by
  rcases BitVec.eq_zero_or_eq_one a with rfl | rfl <;> rcases BitVec.eq_zero_or_eq_one b with rfl | rfl <;> revert h <;> decide

end Cert.Take

end
-- ==== Proof.Pre.lean ====
module

public import proofs.«01_k».proof.Pre_as_drawn
public import proofs.«01_k».proof.Proof.Take
public import proofs.«01_k».proof.Proof.Lane

@[expose] public section

set_option maxRecDepth 16384

noncomputable section

/-! # What the precondition says of each argument -/

namespace Cert.Pre_as_drawn

open Idealize.ShloMosaic Idealize.ShloMosaic.TcCoe

/-- The shape relations the precondition's operations take. -/
theorem facts : Facts where
  bcast_S_S2048 := by decide
  bcast_S_S128 := by decide
  bcast_S_S256 := by decide
  bcast_S_S2048x3 := by decide
  slices_S6x128_S3x128_0_0 := by decide
  bcast_S_S3x128 := by decide

/-- The precondition at coordinates: attribute words in range, biases zero and scales one, the centre and the
    position's weights real. -/
structure Drawn (x0 x3 x4 : IVec S2048 32) (x5 : FVec Ideal S2048x3 .f32) (x7 : FVec Ideal S6x128 .f32) (x8 x9 x10 : FVec Ideal S128 .f32)
    (x12 x14 x15 x16 : FVec Ideal S256 .f32) (x18 : FVec Ideal S128 .f32) : Prop where
  type : ∀ m : Fin 2048, x0 (ix1 m) = 0#32 ∨ x0 (ix1 m) = 1#32
  control : ∀ m : Fin 2048, x3 (ix1 m) = 0#32 ∨ x3 (ix1 m) = 1#32
  direction : ∀ m : Fin 2048, x4 (ix1 m) = 0#32 ∨ x4 (ix1 m) = 1#32 ∨ x4 (ix1 m) = 2#32
  centre : ∀ (m : Fin 2048) (k : Fin 3), ∃ r : ℝ, x5 (ix2 m k) = (r : EReal)
  weight : ∀ (k : Fin 3) (j : Fin 128), ∃ r : ℝ, x7 (ix2 ⟨k.val, by omega⟩ j) = (r : EReal)
  narrow : ∀ j : Fin 128, x8 (ix1 j) = (0 : EReal) ∧ x9 (ix1 j) = (1 : EReal) ∧ x10 (ix1 j) = (0 : EReal) ∧ x18 (ix1 j) = (0 : EReal)
  wide : ∀ j : Fin 256, x12 (ix1 j) = (0 : EReal) ∧ x14 (ix1 j) = (0 : EReal) ∧ x15 (ix1 j) = (1 : EReal) ∧ x16 (ix1 j) = (0 : EReal)

variable [Facts]

/-- The compiled precondition holding everywhere gives its facts at coordinates. -/
theorem drawn (x0 x3 x4 : IVec S2048 32) (x1 x2 : FVec Ideal S2048x128x3 .f32) (x5 : FVec Ideal S2048x3 .f32) (x6 : IVec S2048x128 1)
    (x7 : FVec Ideal S6x128 .f32) (x8 x9 x10 : FVec Ideal S128 .f32) (x11 : FVec Ideal S128x256 .f32) (x12 : FVec Ideal S256 .f32)
    (x13 : FVec Ideal S512x256 .f32) (x14 x15 x16 : FVec Ideal S256 .f32) (x17 : FVec Ideal S256x128 .f32) (x18 : FVec Ideal S128 .f32)
    (x19 x20 : FVec Ideal S2x128 .f32) (x21 : FVec Ideal S3x128 .f32)
    (h : fn (F := Ideal) x0 x1 x2 x3 x4 x5 x6 x7 x8 x9 x10 x11 x12 x13 x14 x15 x16 x17 x18 x19 x20 x21
      = (fun _ => 1#1, fun _ => 1#1, fun _ => 1#1, fun _ => 1#1, fun _ => 1#1, fun _ => 1#1, fun _ => 1#1)) :
    Drawn x0 x3 x4 x5 x7 x8 x9 x10 x12 x14 x15 x16 x18 := by
  simp only [fn, fn_part1, fn_part2, Prod.mk.injEq] at h
  obtain ⟨ht, hc, hd, hj, hk, h5, h7⟩ := h
  refine ⟨fun m => ?_, fun m => ?_, fun m => ?_, fun m k => ?_, fun k j => ?_, fun j => ?_, fun j => ?_⟩
  · have a := congrFun ht (ix1 m)
    pointwise at a
    exact Take.word_two (Take.andi_one a).1 (Take.andi_one a).2
  · have a := congrFun hc (ix1 m)
    pointwise at a
    exact Take.word_two (Take.andi_one a).1 (Take.andi_one a).2
  · have a := congrFun hd (ix1 m)
    pointwise at a
    exact Take.word_three (Take.andi_one a).1 (Take.andi_one a).2
  · have a := congrFun h5 (ix2 m k)
    pointwise at a
    exact Lane.real_of_abs_lt (of_decide_eq_true (Take.ofBool_one a))
  · have a := congrFun h7 (ix2 k j)
    pointwise at a
    exact Lane.real_of_abs_lt (of_decide_eq_true (Take.ofBool_one a))
  · have a := congrFun hj (ix1 j)
    pointwise at a
    obtain ⟨a, a4⟩ := Take.andi_one a
    obtain ⟨a, a3⟩ := Take.andi_one a
    obtain ⟨a1, a2⟩ := Take.andi_one a
    exact ⟨of_decide_eq_true (Take.ofBool_one a1), of_decide_eq_true (Take.ofBool_one a2), of_decide_eq_true (Take.ofBool_one a3),
      of_decide_eq_true (Take.ofBool_one a4)⟩
  · have a := congrFun hk (ix1 j)
    pointwise at a
    obtain ⟨a, a4⟩ := Take.andi_one a
    obtain ⟨a, a3⟩ := Take.andi_one a
    obtain ⟨a1, a2⟩ := Take.andi_one a
    exact ⟨of_decide_eq_true (Take.ofBool_one a1), of_decide_eq_true (Take.ofBool_one a2), of_decide_eq_true (Take.ofBool_one a3),
      of_decide_eq_true (Take.ofBool_one a4)⟩

end Cert.Pre_as_drawn

end
-- ==== Proof.Refr.lean ====
module

public import proofs.«01_k».proof.Proof.Gen.ReferenceIdeal.Read
public import Idealize.ShloMosaic.Lib.Pointwise
public import proofs.«01_k».proof.Proof.Pre

@[expose] public section

set_option maxRecDepth 16384

noncomputable section

/-! # What the reference computes, on coordinates

Lane `m`, point `p`: the reference's stages read as the lane's encoder, with the biases zero and scales one. -/

namespace Cert.ReferenceIdeal.Enc

open Idealize.ShloMosaic Idealize.ShloMosaic.TcCoe Idealize.SL.Sem
open Cert.ReferenceIdeal Cert.ReferenceIdeal.Gen Cert.ReferenceIdeal.Read

/-- The lane's first hidden layer from the arguments. -/
abbrev first (x1 x2 : FVec Ideal S2048x128x3 .f32) (x5 : FVec Ideal S2048x3 .f32) (x7 : FVec Ideal S6x128 .f32) (m : Fin 2048) :
    Fin 128 → Fin 128 → EReal :=
  Lane.hid1 (fun p f => x1 (ix3 m p f)) (fun p f => x2 (ix3 m p f)) (fun f => x5 (ix2 m f))
    (fun f k => x7 (ix2 ⟨f.val, by omega⟩ k)) (fun f k => x7 (ix2 ⟨3 + f.val, by omega⟩ k))

/-- The lane's second hidden layer from the arguments. -/
abbrev second (x1 x2 : FVec Ideal S2048x128x3 .f32) (x5 : FVec Ideal S2048x3 .f32) (x6 : IVec S2048x128 1) (x7 : FVec Ideal S6x128 .f32)
    (x11 : FVec Ideal S128x256 .f32) (m : Fin 2048) : Fin 128 → Fin 256 → EReal :=
  Lane.hid2 (first x1 x2 x5 x7 m) (fun k j => x11 (ix2 k j)) (fun p => Lane.factor (x6 (ix2 m p)))

/-- The lane's output from the arguments: its code plus its three attribute rows. -/
abbrev lane (x0 x3 x4 : IVec S2048 32) (x1 x2 : FVec Ideal S2048x128x3 .f32) (x5 : FVec Ideal S2048x3 .f32) (x6 : IVec S2048x128 1)
    (x7 : FVec Ideal S6x128 .f32) (x11 : FVec Ideal S128x256 .f32) (x13 : FVec Ideal S512x256 .f32) (x17 : FVec Ideal S256x128 .f32)
    (x19 x20 : FVec Ideal S2x128 .f32) (x21 : FVec Ideal S3x128 .f32) (m : Fin 2048) (l : Fin 128) : EReal :=
  Lane.enc (first x1 x2 x5 x7 m) (fun k j => x11 (ix2 k j)) (fun k j => x13 (ix2 ⟨k.val, by omega⟩ j)) (fun k j => x13 (ix2 ⟨256 + k.val, by omega⟩ j))
      (fun k l => x17 (ix2 k l)) (fun p => Lane.factor (x6 (ix2 m p))) l
    + (Lane.pick2 (x0 (ix1 m)) (x19 (ix2 0 l)) (x19 (ix2 1 l)) + Lane.pick2 (x3 (ix1 m)) (x20 (ix2 0 l)) (x20 (ix2 1 l))
      + Lane.pick3 (x4 (ix1 m)) (x21 (ix2 0 l)) (x21 (ix2 1 l)) (x21 (ix2 2 l)))

section
variable (x0 x3 x4 : IVec S2048 32) (x1 x2 : FVec Ideal S2048x128x3 .f32) (x5 : FVec Ideal S2048x3 .f32) (x6 : IVec S2048x128 1)
  (x7 : FVec Ideal S6x128 .f32) (x8 x9 x10 : FVec Ideal S128 .f32) (x11 : FVec Ideal S128x256 .f32) (x12 : FVec Ideal S256 .f32)
  (x13 : FVec Ideal S512x256 .f32) (x14 x15 x16 : FVec Ideal S256 .f32) (x17 : FVec Ideal S256x128 .f32) (x18 : FVec Ideal S128 .f32)
  (x19 x20 : FVec Ideal S2x128 .f32) (x21 : FVec Ideal S3x128 .f32)
  (hx : Pre_as_drawn.Drawn x0 x3 x4 x5 x7 x8 x9 x10 x12 x14 x15 x16 x18)

include hx

/-- The reference's first hidden layer: centring the positions is taking the centre's product away. -/
theorem v14_at (m : Fin 2048) (p j : Fin 128) : val_main_v14 (F := Ideal) x1 x2 x5 x7 x8 x9 x10 (ix3 m p j) = first x1 x2 x5 x7 m p j := by
  pointwise [val_main_v14, val_main_v13, val_main_v12, val_main_v11, val_main_v10, val_main_v9, val_main_v8, val_main_v7, val_main_v6,
    val_main_v5, val_main_v4, val_main_v3, val_main_v2, val_main_v1, val_main_v0, val_main_call0_v0, val_main_call0_cst]
  obtain ⟨h8, h9, h10, -⟩ := hx.narrow j
  choose r hr using hx.centre m
  choose w hw using fun k => hx.weight k j
  rw [h8, h9, h10, add_zero, mul_one, add_zero]
  simp only [first, Lane.hid1]
  simp only [hr, hw]
  rw [Lane.centred]

/-- The reference's second hidden layer: choosing zero off the mask is multiplying by the mask's factor. -/
theorem v20_at (m : Fin 2048) (p : Fin 128) (j : Fin 256) :
    val_main_v20 (F := Ideal) x1 x2 x5 x6 x7 x8 x9 x10 x11 x12 (ix3 m p j) = second x1 x2 x5 x6 x7 x11 m p j := by
  pointwise [val_main_v20, val_main_call1_v1, val_main_call1_v2, val_main_call1_v0, val_main_cst, val_main_v19, val_main_v18, val_main_v17, val_main_v16, val_main_v15]
  simp only [id]
  pointwise
  rw [(hx.wide j).1, add_zero, Lane.select_eq_mul]
  simp only [v14_at x0 x3 x4 x1 x2 x5 x7 x8 x9 x10 x12 x14 x15 x16 x18 hx]
  rfl

/-- The reference's pooled features of a lane. -/
theorem v21_at (m : Fin 2048) (j : Fin 256) :
    val_main_v21 (F := Ideal) x1 x2 x5 x6 x7 x8 x9 x10 x11 x12 (ix2 m j) = Lane.top fun p => second x1 x2 x5 x6 x7 x11 m p j := by
  pointwise [val_main_v21, val_main_cst_0]
  simp only [Lane.ofBits_neg_inf32, v20_at x0 x3 x4 x1 x2 x5 x6 x7 x8 x9 x10 x11 x12 x14 x15 x16 x18 hx]
  rfl

/-- The reference's third hidden layer. -/
theorem v35_at (m : Fin 2048) (p : Fin 128) (j : Fin 256) :
    val_main_v35 (F := Ideal) x1 x2 x5 x6 x7 x8 x9 x10 x11 x12 x13 x14 x15 x16 (ix3 m p j)
      = Lane.hid3 (second x1 x2 x5 x6 x7 x11 m) (fun k j => x13 (ix2 ⟨k.val, by omega⟩ j)) (fun k j => x13 (ix2 ⟨256 + k.val, by omega⟩ j)) p j := by
  pointwise [val_main_v35, val_main_call2_v0, val_main_call2_cst, val_main_v34, val_main_v33, val_main_v32, val_main_v31, val_main_v30, val_main_v29, val_main_v28, val_main_v27, val_main_v26, val_main_v25, val_main_v24, val_main_v23, val_main_v22]
  obtain ⟨-, h14, h15, h16⟩ := hx.wide j
  rw [h14, h15, h16, add_zero, mul_one, add_zero]
  simp only [v20_at x0 x3 x4 x1 x2 x5 x6 x7 x8 x9 x10 x11 x12 x14 x15 x16 x18 hx, v21_at x0 x3 x4 x1 x2 x5 x6 x7 x8 x9 x10 x11 x12 x14 x15 x16 x18 hx]
  rfl

/-- The reference's code of a lane. -/
theorem v42_at (m : Fin 2048) (l : Fin 128) :
    val_main_v42 (F := Ideal) x1 x2 x5 x6 x7 x8 x9 x10 x11 x12 x13 x14 x15 x16 x17 x18 (ix2 m l)
      = Lane.enc (first x1 x2 x5 x7 m) (fun k j => x11 (ix2 k j)) (fun k j => x13 (ix2 ⟨k.val, by omega⟩ j)) (fun k j => x13 (ix2 ⟨256 + k.val, by omega⟩ j))
      (fun k l => x17 (ix2 k l)) (fun p => Lane.factor (x6 (ix2 m p))) l := by
  pointwise [val_main_v42, val_main_cst_2, val_main_v41, val_main_v40, val_main_cst_1, val_main_call3_v0, val_main_call3_v1, val_main_call3_v2, val_main_v39, val_main_v38, val_main_v37, val_main_v36]
  simp only [id]
  pointwise
  simp only [Lane.ofBits_neg_inf32, (hx.narrow l).2.2.2, add_zero, Lane.select_eq_mul,
    v35_at x0 x3 x4 x1 x2 x5 x6 x7 x8 x9 x10 x11 x12 x13 x14 x15 x16 x18 hx]
  rfl
end

section
variable (w : IVec S2048 32) (tab : FVec Ideal S2x128 .f32) (tab3 : FVec Ideal S3x128 .f32) (m : Fin 2048)

/-- A lane's word, as the index into a table of two rows. -/
theorem call4_v5_at (hw : w (ix1 m) = 0#32 ∨ w (ix1 m) = 1#32) (a : Fin 1) : val_main_call4_v5 (F := Ideal) w (ix2 m a) = w (ix1 m) := by
  pointwise [val_main_call4_v5, val_main_call4_v4, val_main_call4_v3, val_main_call4_v2, val_main_call4_c_0, val_main_call4_v1, val_main_call4_v0, val_main_call4_c]
  rcases hw with h | h <;> rw [h] <;> decide

/-- Taking a row of a table of two by a lane's word. -/
theorem v43_at (hw : w (ix1 m) = 0#32 ∨ w (ix1 m) = 1#32) (l : Fin 128) :
    val_main_v43 (F := Ideal) w tab (ix2 m l) = Lane.pick2 (w (ix1 m)) (tab (ix2 0 l)) (tab (ix2 1 l)) := by
  pointwise [val_main_v43, val_main_call4_v15, val_main_call4_cst, val_main_call4_v14, val_main_call4_v13, val_main_call4_v12, val_main_call4_c_3, val_main_call4_v11, val_main_call4_v10, val_main_call4_v9, val_main_call4_v8, val_main_call4_v7, val_main_call4_v6, val_main_call4_c_2, val_main_call4_c_1]
  have hg : Host.gather gather_S2x128_S2048x1_S2048x128_1_0_n_n_0_1_1128 tab (val_main_call4_v5 (F := Ideal) w) (ix2 m l)
      = tab (ix2 ⟨min (val_main_call4_v5 (F := Ideal) w (ix2 m 0)).toInt.toNat (2 - 1), by omega⟩ l) :=
    Take.gather_row (by decide) _ tab _ m l
  have hi := call4_v5_at w m hw
  rw [hg]
  rcases hw with h | h <;> simp only [h] at hi ⊢ <;> simp only [hi] <;> rfl

/-- The second table of two is taken the same way. -/
theorem v45_at (hw : w (ix1 m) = 0#32 ∨ w (ix1 m) = 1#32) (l : Fin 128) :
    val_main_v45 (F := Ideal) w tab (ix2 m l) = Lane.pick2 (w (ix1 m)) (tab (ix2 0 l)) (tab (ix2 1 l)) :=
  v43_at w tab m hw l

/-- A lane's word, as the index into a table of three rows. -/
theorem call6_v5_at (hw : w (ix1 m) = 0#32 ∨ w (ix1 m) = 1#32 ∨ w (ix1 m) = 2#32) (a : Fin 1) :
    val_main_call6_v5 (F := Ideal) w (ix2 m a) = w (ix1 m) := by
  pointwise [val_main_call6_v5, val_main_call6_v4, val_main_call6_v3, val_main_call6_v2, val_main_call6_c_0, val_main_call6_v1, val_main_call6_v0, val_main_call6_c]
  rcases hw with h | h | h <;> rw [h] <;> decide

/-- Taking a row of a table of three by a lane's word. -/
theorem v47_at (hw : w (ix1 m) = 0#32 ∨ w (ix1 m) = 1#32 ∨ w (ix1 m) = 2#32) (l : Fin 128) :
    val_main_v47 (F := Ideal) w tab3 (ix2 m l) = Lane.pick3 (w (ix1 m)) (tab3 (ix2 0 l)) (tab3 (ix2 1 l)) (tab3 (ix2 2 l)) := by
  pointwise [val_main_v47, val_main_call6_v15, val_main_call6_cst, val_main_call6_v14, val_main_call6_v13, val_main_call6_v12, val_main_call6_c_3, val_main_call6_v11, val_main_call6_v10, val_main_call6_v9, val_main_call6_v8, val_main_call6_v7, val_main_call6_v6, val_main_call6_c_2, val_main_call6_c_1]
  have hg : Host.gather gather_S3x128_S2048x1_S2048x128_1_0_n_n_0_1_1128 tab3 (val_main_call6_v5 (F := Ideal) w) (ix2 m l)
      = tab3 (ix2 ⟨min (val_main_call6_v5 (F := Ideal) w (ix2 m 0)).toInt.toNat (3 - 1), by omega⟩ l) :=
    Take.gather_row (by decide) _ tab3 _ m l
  have hi := call6_v5_at w m hw
  rw [hg]
  rcases hw with h | h | h <;> simp only [h] at hi ⊢ <;> simp only [hi] <;> rfl
end

section
variable (x0 x3 x4 : IVec S2048 32) (x1 x2 : FVec Ideal S2048x128x3 .f32) (x5 : FVec Ideal S2048x3 .f32) (x6 : IVec S2048x128 1)
  (x7 : FVec Ideal S6x128 .f32) (x8 x9 x10 : FVec Ideal S128 .f32) (x11 : FVec Ideal S128x256 .f32) (x12 : FVec Ideal S256 .f32)
  (x13 : FVec Ideal S512x256 .f32) (x14 x15 x16 : FVec Ideal S256 .f32) (x17 : FVec Ideal S256x128 .f32) (x18 : FVec Ideal S128 .f32)
  (x19 x20 : FVec Ideal S2x128 .f32) (x21 : FVec Ideal S3x128 .f32)

/-- The reference's first result at lane `m` and channel `l` is the lane's output. -/
theorem v49_at (hx : Pre_as_drawn.Drawn x0 x3 x4 x5 x7 x8 x9 x10 x12 x14 x15 x16 x18) (a : Fin 1) (m : Fin 2048) (l : Fin 128) :
    val_main_v49 (F := Ideal) x0 x1 x2 x3 x4 x5 x6 x7 x8 x9 x10 x11 x12 x13 x14 x15 x16 x17 x18 x19 x20 x21 (ix3 a m l)
      = lane x0 x3 x4 x1 x2 x5 x6 x7 x11 x13 x17 x19 x20 x21 m l := by
  have hi : idx_main_v49 (ix3 a m l) = ix2 m l := by
    funext b
    match b with
    | ⟨0, _⟩ => rfl
    | ⟨1, _⟩ => rfl
  rw [val_main_v49_apply, hi, val_main_v48_apply, val_main_v46_apply, val_main_v44_apply,
    v42_at x0 x3 x4 x1 x2 x5 x6 x7 x8 x9 x10 x11 x12 x13 x14 x15 x16 x17 x18 hx, v43_at _ _ _ (hx.type m), v45_at _ _ _ (hx.control m),
    v47_at _ _ _ (hx.direction m)]
  show _ + _ + _ + _ = _ + (_ + _ + _)
  rw [add_assoc, add_assoc, add_assoc]

/-- The reference's first result is the array of the lanes' outputs with a leading axis of one. -/
theorem v49_eq (hx : Pre_as_drawn.Drawn x0 x3 x4 x5 x7 x8 x9 x10 x12 x14 x15 x16 x18) :
    val_main_v49 (F := Ideal) x0 x1 x2 x3 x4 x5 x6 x7 x8 x9 x10 x11 x12 x13 x14 x15 x16 x17 x18 x19 x20 x21
      = broadcastInDim S1x2048x128 ![1, 2] bcast_S2048x128_S1x2048x128_1_2
          (fun i : S2048x128.Idx => lane x0 x3 x4 x1 x2 x5 x6 x7 x11 x13 x17 x19 x20 x21 (i 0) (i 1)) := by
  funext i
  idx_vars i
  refine (v49_at x0 x3 x4 x1 x2 x5 x6 x7 x8 x9 x10 x11 x12 x13 x14 x15 x16 x17 x18 x19 x20 x21 hx _ _ _).trans ?_
  pointwise
end

end Cert.ReferenceIdeal.Enc

end
-- ==== Proof.Steps.lean ====
module

public import proofs.«01_k».proof.Proof.Gen.KernelIdeal.Frame
public import Idealize.ShloMosaic.Lib.Pipeline.ValueKit
public import Idealize.ShloMosaic.Lib.Claim
public import proofs.«01_k».proof.Proof.Block
public import proofs.«01_k».proof.Proof.Entry
public import proofs.«01_k».proof.Proof.Refr

@[expose] public section

set_option maxRecDepth 16384

noncomputable section

/-! # What the kernel leaves in its array -/

namespace Cert.KernelIdeal.Final

open Idealize.ShloMosaic Idealize.ShloMosaic.TcCoe Idealize.SL.Sem
open Cert.KernelIdeal Cert.KernelIdeal.Gen

/-- The block each window holds at grid step `t`. -/
theorem idx : ∀ t : Fin cfg0.N, win0_0.index t = ![0, t.val] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

/-- There are sixteen grid steps. -/
theorem step_lt (t : Fin cfg0.N) : t.val < 16 := lt_of_lt_of_eq t.isLt N_0

/-- Lane `r` of grid step `t` among all lanes. -/
abbrev lane (t : Fin cfg0.N) (r : Fin 128) : Fin 2048 := ⟨t.val * 128 + r.val, by have := step_lt t; omega⟩

/-- Point `p` of lane `r` of grid step `t` among all points. -/
abbrev point (t : Fin cfg0.N) (r p : Fin 128) : Fin 262144 := ⟨t.val * 16384 + (r.val * 128 + p.val), by have := step_lt t; omega⟩

/-- A point's lane. -/
theorem point_div (t : Fin cfg0.N) (r p : Fin 128) (h : (point t r p).val / 128 < 2048) : (⟨(point t r p).val / 128, h⟩ : Fin 2048) = lane t r := by
  refine Fin.ext ?_
  show (t.val * 16384 + (r.val * 128 + p.val)) / 128 = t.val * 128 + r.val
  omega

/-- A point's place in its lane. -/
theorem point_mod (t : Fin cfg0.N) (r p : Fin 128) (h : (point t r p).val % 128 < 128) : (⟨(point t r p).val % 128, h⟩ : Fin 128) = p := by
  refine Fin.ext ?_
  show (t.val * 16384 + (r.val * 128 + p.val)) % 128 = p.val
  omega

variable (m : (ℓ : Loc nD τ sig) → Buf (Elt Ideal) ℓ) (c : Dev nD) (t : Fin cfg0.N)

/-- The positions' rows of a step's features. -/
theorem pos_blk (f : Fin 3) (r p : Fin 128) : (show Vec Ideal S6x16384 .bf16 from iblk m c 0 t) (ix2 ⟨f.val, by omega⟩ (Block.row r p))
    = (show FVec Ideal S2048x128x3 .f32 from m ((c.tc : Thread nD τ).loc main_arg1)) (ix3 (lane t r) p f) := by
  have h := Entry.pos_at m c f (point t r p)
  rw [point_div, point_mod] at h
  refine Eq.trans ?_ h
  blk_ext [iblk, idx t]

/-- The directions' rows of a step's features. -/
theorem vec_blk (f : Fin 3) (r p : Fin 128) : (show Vec Ideal S6x16384 .bf16 from iblk m c 0 t) (ix2 ⟨3 + f.val, by omega⟩ (Block.row r p))
    = (show FVec Ideal S2048x128x3 .f32 from m ((c.tc : Thread nD τ).loc main_arg2)) (ix3 (lane t r) p f) := by
  have h := Entry.vec_at m c f (point t r p)
  rw [point_div, point_mod] at h
  refine Eq.trans ?_ h
  blk_ext [iblk, idx t]

/-- A step's centres. -/
theorem centre_blk (r : Fin 128) (f : Fin 3) : (show Vec Ideal S128x3 .f32 from iblk m c 1 t) (ix2 r f)
    = (show FVec Ideal S2048x3 .f32 from m ((c.tc : Thread nD τ).loc main_arg5)) (ix2 (lane t r) f) := by
  refine Eq.trans ?_ (congrFun (V_main_arg5 m c) (ix2 (lane t r) f))
  blk_ext [iblk, idx t]

/-- A step's mask factors. -/
theorem mask_blk (r p : Fin 128) : (show Vec Ideal S128x128 .bf16 from iblk m c 2 t) (ix2 r p)
    = Lane.factor ((show IVec S2048x128 1 from m ((c.tc : Thread nD τ).loc main_arg6)) (ix2 (lane t r) p)) := by
  refine Eq.trans ?_ (Entry.mask_at m c (lane t r) p)
  blk_ext [iblk, idx t]

/-- A step's type words. -/
theorem type_blk (r : Fin 128) : (show Vec Ideal S128x1 .i32 from iblk m c 3 t) (ix2 r 0)
    = (show IVec S2048 32 from m ((c.tc : Thread nD τ).loc main_arg0)) (ix1 (lane t r)) := by
  refine Eq.trans ?_ (Entry.type_at m c (lane t r) 0)
  blk_ext [iblk, idx t]

/-- A step's control words. -/
theorem control_blk (r : Fin 128) : (show Vec Ideal S128x1 .i32 from iblk m c 4 t) (ix2 r 0)
    = (show IVec S2048 32 from m ((c.tc : Thread nD τ).loc main_arg3)) (ix1 (lane t r)) := by
  refine Eq.trans ?_ (Entry.control_at m c (lane t r) 0)
  blk_ext [iblk, idx t]

/-- A step's direction words. -/
theorem direction_blk (r : Fin 128) : (show Vec Ideal S128x1 .i32 from iblk m c 5 t) (ix2 r 0)
    = (show IVec S2048 32 from m ((c.tc : Thread nD τ).loc main_arg4)) (ix1 (lane t r)) := by
  refine Eq.trans ?_ (Entry.direction_at m c (lane t r) 0)
  blk_ext [iblk, idx t]

/-- Every step holds all the first layer's weights. -/
theorem w1_blk (f : Fin 6) (k : Fin 128) : (show Vec Ideal S6x128 .bf16 from iblk m c 6 t) (ix2 f k)
    = (show FVec Ideal S6x128 .f32 from m ((c.tc : Thread nD τ).loc main_arg7)) (ix2 f k) := by
  refine Eq.trans ?_ (Entry.w1_at m c f k)
  blk_ext [iblk, idx t]

/-- Every step holds the positions' weights. -/
theorem wc_blk (f : Fin 3) (k : Fin 128) : (show Vec Ideal S3x128 .f32 from iblk m c 7 t) (ix2 f k)
    = (show FVec Ideal S6x128 .f32 from m ((c.tc : Thread nD τ).loc main_arg7)) (ix2 ⟨f.val, by omega⟩ k) := by
  refine Eq.trans ?_ (Entry.wc_at m c f k)
  blk_ext [iblk, idx t]

/-- Every step holds the second layer's weights. -/
theorem w2_blk (f : Fin 128) (k : Fin 256) : (show Vec Ideal S128x256 .bf16 from iblk m c 8 t) (ix2 f k)
    = (show FVec Ideal S128x256 .f32 from m ((c.tc : Thread nD τ).loc main_arg11)) (ix2 f k) := by
  refine Eq.trans ?_ (Entry.w2_at m c f k)
  blk_ext [iblk, idx t]

/-- The upper half of the third layer's weights, as a step loads it. -/
theorem w3a_blk (f k : Fin 256) : (show Vec Ideal S256x256 .bf16 from View.ld (iblk m c 9 t) r0_6) (ix2 f k)
    = (show FVec Ideal S512x256 .f32 from m ((c.tc : Thread nD τ).loc main_arg13)) (ix2 ⟨f.val, by omega⟩ k) := by
  refine Eq.trans ?_ (Entry.w3_at m c ⟨f.val, by omega⟩ k)
  refine (View.ld_unit_apply_of _ _ _ _ _ (ix2 ⟨f.val, by omega⟩ k) fun a => match a with
    | ⟨0, _⟩ => (Nat.zero_add _).symm
    | ⟨1, _⟩ => (Nat.zero_add _).symm).trans ?_
  blk_ext [iblk, idx t]

/-- The lower half of the third layer's weights, as a step loads it. -/
theorem w3b_blk (f k : Fin 256) : (show Vec Ideal S256x256 .bf16 from View.ld (iblk m c 9 t) r0_7) (ix2 f k)
    = (show FVec Ideal S512x256 .f32 from m ((c.tc : Thread nD τ).loc main_arg13)) (ix2 ⟨256 + f.val, by omega⟩ k) := by
  refine Eq.trans ?_ (Entry.w3_at m c ⟨256 + f.val, by omega⟩ k)
  refine (View.ld_unit_apply_of _ _ _ _ _ (ix2 ⟨256 + f.val, by omega⟩ k) fun a => match a with
    | ⟨0, _⟩ => rfl
    | ⟨1, _⟩ => (Nat.zero_add _).symm).trans ?_
  blk_ext [iblk, idx t]

/-- Every step holds the last layer's weights. -/
theorem w4_blk (f : Fin 256) (k : Fin 128) : (show Vec Ideal S256x128 .bf16 from iblk m c 10 t) (ix2 f k)
    = (show FVec Ideal S256x128 .f32 from m ((c.tc : Thread nD τ).loc main_arg17)) (ix2 f k) := by
  refine Eq.trans ?_ (Entry.w4_at m c f k)
  blk_ext [iblk, idx t]

/-- Row 0 of the type table, as a step loads it. -/
theorem typeTab0_blk (l : Fin 128) : (show Vec Ideal S1x128 .f32 from View.ld (iblk m c 11 t) r0_10) (ix2 0 l)
    = (show FVec Ideal S2x128 .f32 from m ((c.tc : Thread nD τ).loc main_arg19)) (ix2 0 l) := by
  refine Eq.trans ?_ (Entry.typeTab_at m c 0 l)
  refine (View.ld_unit_apply_of _ _ _ _ _ (ix2 0 l) fun a => match a with
    | ⟨0, _⟩ => rfl
    | ⟨1, _⟩ => (Nat.zero_add _).symm).trans ?_
  blk_ext [iblk, idx t]

/-- Row 1 of the type table, as a step loads it. -/
theorem typeTab1_blk (l : Fin 128) : (show Vec Ideal S1x128 .f32 from View.ld (iblk m c 11 t) r0_11) (ix2 0 l)
    = (show FVec Ideal S2x128 .f32 from m ((c.tc : Thread nD τ).loc main_arg19)) (ix2 1 l) := by
  refine Eq.trans ?_ (Entry.typeTab_at m c 1 l)
  refine (View.ld_unit_apply_of _ _ _ _ _ (ix2 1 l) fun a => match a with
    | ⟨0, _⟩ => rfl
    | ⟨1, _⟩ => (Nat.zero_add _).symm).trans ?_
  blk_ext [iblk, idx t]

/-- Row 0 of the control table, as a step loads it. -/
theorem controlTab0_blk (l : Fin 128) : (show Vec Ideal S1x128 .f32 from View.ld (iblk m c 12 t) r0_10) (ix2 0 l)
    = (show FVec Ideal S2x128 .f32 from m ((c.tc : Thread nD τ).loc main_arg20)) (ix2 0 l) := by
  refine Eq.trans ?_ (Entry.controlTab_at m c 0 l)
  refine (View.ld_unit_apply_of _ _ _ _ _ (ix2 0 l) fun a => match a with
    | ⟨0, _⟩ => rfl
    | ⟨1, _⟩ => (Nat.zero_add _).symm).trans ?_
  blk_ext [iblk, idx t]

/-- Row 1 of the control table, as a step loads it. -/
theorem controlTab1_blk (l : Fin 128) : (show Vec Ideal S1x128 .f32 from View.ld (iblk m c 12 t) r0_11) (ix2 0 l)
    = (show FVec Ideal S2x128 .f32 from m ((c.tc : Thread nD τ).loc main_arg20)) (ix2 1 l) := by
  refine Eq.trans ?_ (Entry.controlTab_at m c 1 l)
  refine (View.ld_unit_apply_of _ _ _ _ _ (ix2 1 l) fun a => match a with
    | ⟨0, _⟩ => rfl
    | ⟨1, _⟩ => (Nat.zero_add _).symm).trans ?_
  blk_ext [iblk, idx t]

/-- Row 0 of the direction table, as a step loads it. -/
theorem directionTab0_blk (l : Fin 128) : (show Vec Ideal S1x128 .f32 from View.ld (iblk m c 13 t) r0_10) (ix2 0 l)
    = (show FVec Ideal S3x128 .f32 from m ((c.tc : Thread nD τ).loc main_arg21)) (ix2 0 l) := by
  refine Eq.trans ?_ (Entry.directionTab_at m c 0 l)
  refine (View.ld_unit_apply_of _ _ _ _ _ (ix2 0 l) fun a => match a with
    | ⟨0, _⟩ => rfl
    | ⟨1, _⟩ => (Nat.zero_add _).symm).trans ?_
  blk_ext [iblk, idx t]

/-- Row 1 of the direction table, as a step loads it. -/
theorem directionTab1_blk (l : Fin 128) : (show Vec Ideal S1x128 .f32 from View.ld (iblk m c 13 t) r0_11) (ix2 0 l)
    = (show FVec Ideal S3x128 .f32 from m ((c.tc : Thread nD τ).loc main_arg21)) (ix2 1 l) := by
  refine Eq.trans ?_ (Entry.directionTab_at m c 1 l)
  refine (View.ld_unit_apply_of _ _ _ _ _ (ix2 1 l) fun a => match a with
    | ⟨0, _⟩ => rfl
    | ⟨1, _⟩ => (Nat.zero_add _).symm).trans ?_
  blk_ext [iblk, idx t]

/-- Row 2 of the direction table, as a step loads it. -/
theorem directionTab2_blk (l : Fin 128) : (show Vec Ideal S1x128 .f32 from View.ld (iblk m c 13 t) r0_12) (ix2 0 l)
    = (show FVec Ideal S3x128 .f32 from m ((c.tc : Thread nD τ).loc main_arg21)) (ix2 2 l) := by
  refine Eq.trans ?_ (Entry.directionTab_at m c 2 l)
  refine (View.ld_unit_apply_of _ _ _ _ _ (ix2 2 l) fun a => match a with
    | ⟨0, _⟩ => rfl
    | ⟨1, _⟩ => (Nat.zero_add _).symm).trans ?_
  blk_ext [iblk, idx t]

end Cert.KernelIdeal.Final

end
-- ==== Proof.Final.lean ====
module

public import proofs.«01_k».proof.Proof.Steps

@[expose] public section

set_option maxRecDepth 16384

noncomputable section

/-! # What the kernel leaves in its array -/

namespace Cert.KernelIdeal.Final

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The array of lanes' outputs, from the arguments. -/
def out : FVec Ideal S2048x128 .f32 := fun i =>
  Cert.ReferenceIdeal.Enc.lane (m ((c.tc : Thread nD τ).loc main_arg0)) (m ((c.tc : Thread nD τ).loc main_arg3)) (m ((c.tc : Thread nD τ).loc main_arg4))
    (m ((c.tc : Thread nD τ).loc main_arg1)) (m ((c.tc : Thread nD τ).loc main_arg2)) (m ((c.tc : Thread nD τ).loc main_arg5))
    (m ((c.tc : Thread nD τ).loc main_arg6)) (m ((c.tc : Thread nD τ).loc main_arg7)) (m ((c.tc : Thread nD τ).loc main_arg11))
    (m ((c.tc : Thread nD τ).loc main_arg13)) (m ((c.tc : Thread nD τ).loc main_arg17)) (m ((c.tc : Thread nD τ).loc main_arg19))
    (m ((c.tc : Thread nD τ).loc main_arg20)) (m ((c.tc : Thread nD τ).loc main_arg21)) (i 0) (i 1)

/-- A step's first hidden layer of a lane is that of the lane's arguments. -/
theorem hid1_blk (r : Fin 128) : Block.hid1 (iblk m c 0 t) (iblk m c 6 t) (iblk m c 1 t) (iblk m c 7 t) r
    = Cert.ReferenceIdeal.Enc.first (m ((c.tc : Thread nD τ).loc main_arg1)) (m ((c.tc : Thread nD τ).loc main_arg2)) (m ((c.tc : Thread nD τ).loc main_arg5))
      (m ((c.tc : Thread nD τ).loc main_arg7)) (lane t r) := by
  funext p k
  refine congrArg (fun x : EReal => max x 0) ?_
  refine congr (congrArg (fun a b : EReal => a - b) ?_) ?_
  · refine (Fin.sum_univ_two_halves 3 3 rfl _).trans ?_
    refine congr (congrArg (fun a b : EReal => a + b) ?_) ?_
    · exact Finset.sum_congr rfl fun f _ => congr (congrArg (fun a b : EReal => a * b) (pos_blk m c t f r p)) (w1_blk m c t _ k)
    · exact Finset.sum_congr rfl fun f _ => congr (congrArg (fun a b : EReal => a * b) (vec_blk m c t f r p)) (w1_blk m c t _ k)
  · exact Finset.sum_congr rfl fun f _ => congr (congrArg (fun a b : EReal => a * b) (centre_blk m c t r f)) (wc_blk m c t f k)

/-- The kernel's array at the end holds every lane's output. -/
theorem final : (dats m 0 c).arrAt 14 cfg0.N = out m c := by
  refine (dats m 0 c).arrAt_eq_of_covers 14 _ (by decide +kernel) fun t _ y => ?_
  blk_simp
  rw [after0_14]
  frame_out
  idx_vars y
  refine (Block.block_at _ _ _ _ _ _ _ _ _ _ _ _ _ _ _ _ _ _ _ y0 y1).trans ?_
  have hemb : ((View.whole main_v21).slice (win0_14.rect t)).emb (ix2 y0 y1) = ix2 (lane t y0) y1 := by blk_ext [idx t]
  refine Eq.trans ?_ (congrArg (out m c) hemb).symm
  refine Lane.out_congr y1 (hid1_blk m c t y0) (w2_blk m c t) (w3a_blk m c t) (w3b_blk m c t) (w4_blk m c t) (mask_blk m c t y0)
    (type_blk m c t y0) (typeTab0_blk m c t y1) (typeTab1_blk m c t y1) (control_blk m c t y0) (controlTab0_blk m c t y1) (controlTab1_blk m c t y1)
    (direction_blk m c t y0) (directionTab0_blk m c t y1) (directionTab1_blk m c t y1) (directionTab2_blk m c t y1)

end Cert.KernelIdeal.Final

end
-- ==== Proof.Tail.lean ====
module

public import proofs.«01_k».proof.Proof.Final

@[expose] public section

set_option maxRecDepth 16384

noncomputable section

/-! # The kernel's two results -/

namespace Cert.KernelIdeal.Final

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The first result: the lanes' outputs with a leading axis of one. -/
abbrev res0 : FVec Ideal S1x2048x128 .f32 := broadcastInDim S1x2048x128 ![1, 2] bcast_S2048x128_S1x2048x128_1_2 (out m c)

/-- The second result: the mask with a leading axis of one. -/
abbrev res1 : IVec S1x2048x128 1 :=
  broadcastInDim S1x2048x128 ![1, 2] bcast_S2048x128_S1x2048x128_1_2 (m ((c.tc : Thread nD τ).loc main_arg6))

/-- What the operations after the grid steps leave in the first result. -/
theorem tail0 : Pipeline.afterTail₀ cfgs (dats m) 0 (V0 m) [hostOps1] c main_v22 = res0 m c := by
  unfold Pipeline.afterTail₀
  rw [List.flatten_singleton]
  after_results
  exact congrArg (broadcastInDim S1x2048x128 ![1, 2] bcast_S2048x128_S1x2048x128_1_2)
    ((Pipeline.withArrays_arr _ launch0.win.arr_inj c (V0 m c) (fun w => (dats m 0 c).arrAt w cfg0.N) 14).trans (final m c))

/-- What the operations after the grid steps leave in the second result. -/
theorem tail1 : Pipeline.afterTail₀ cfgs (dats m) 0 (V0 m) [hostOps1] c main_v23 = res1 m c := by
  unfold Pipeline.afterTail₀
  rw [List.flatten_singleton]
  after_results
  exact congrArg (broadcastInDim S1x2048x128 ![1, 2] bcast_S2048x128_S1x2048x128_1_2)
    ((Pipeline.withArrays_of_ne _ c (V0 m c) _ main_arg6 (by decide : ∀ w, Pipeline.arrRef spec0 w ≠ main_arg6)).trans
      (V_main_arg6 m c))

/-- The kernel runs to its two results. -/
theorem results : θ_run defs (onTc (τ := τ) (main (F := Ideal))) ⟨m, fun _ => 0, ρ⟩ (fun r => ∀ c : Dev nD,
    r.2.mem ((c.tc : Thread nD τ).loc main_v22) = res0 m c ∧ r.2.mem ((c.tc : Thread nD τ).loc main_v23) = res1 m c) :=
  (θ_run defs _ _).mono (fun _ h c =>
    ⟨((h c).2 main_v22 (Pipeline.mem_restRefs_of main_v22 (by decide) (by decide))).trans (tail0 m c),
      ((h c).2 main_v23 (Pipeline.mem_restRefs_of main_v23 (by decide) (by decide))).trans (tail1 m c)⟩) (run_main m ρ)

end Cert.KernelIdeal.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Pre_as_drawn
public import proofs.«01_k».proof.Proof.Tail
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference has no semaphore, so every counter is at zero in every state. -/
theorem reference_sem (s : MemSt ReferenceIdeal.nD ReferenceIdeal.τ ReferenceIdeal.sig (Elt Ideal)) : s.sem = fun _ => 0 :=
  sem_eq_zero_of_no_sems rfl s

/-- The kernel, its idealization and the reference leave their arguments and counters as they were, the idealization
    keeps the kernel's operations, and under the precondition it computes what the reference computes. -/
theorem claim : Cert.Claim := by
  refine ⟨Cert.Kernel.Gen.facts, Cert.KernelIdeal.Gen.facts, Cert.ReferenceIdeal.Gen.facts, Cert.Pre_as_drawn.facts, ?_, ?_, ?_, ?_, ?_, trivial, ?_⟩
  · exact fun m g _ => Cert.Kernel.Gen.frame m g
  · exact fun m g _ => Cert.KernelIdeal.Gen.frame m g
  · exact fun m g _ => Cert.KernelIdeal.Gen.frame m g
  · exact fun m g _ => (θ_run _ _ _).mono (fun r h => ⟨fun c => (h c).2.2, reference_sem r.2⟩) (Cert.ReferenceIdeal.Value.run m g)
  · exact fun m g _ => (θ_run _ _ _).mono (fun r h => ⟨fun c => (h c).2.2, reference_sem r.2⟩) (Cert.ReferenceIdeal.Value.run m g)
  · intro m g m' g' hpre hagree
    refine ⟨fun c => KernelIdeal.Final.res0 m c, fun c => KernelIdeal.Final.res1 m c,
      (θ_run _ _ _).mono (fun r h c => ⟨(h.1 c).1, (h.1 c).2, h.2.1 c⟩) (θ_run_and (KernelIdeal.Final.results m g) (KernelIdeal.Gen.frame m g)),
      (θ_run _ _ _).mono (fun r h c => ⟨(h c).1.trans ?_, (h c).2.1.trans ?_, (h c).2.2⟩) (Cert.ReferenceIdeal.Value.run m' g')⟩
    · obtain ⟨h0, h1, h2, h3, h4, h5, h6, h7, h8, h9, h10, h11, h12, h13, h14, h15, h16, h17, h18, h19, h20, h21⟩ := hagree c
      haveI := Cert.Pre_as_drawn.facts
      have hx := Pre_as_drawn.drawn _ _ _ _ _ _ _ _ _ _ _ _ _ _ _ _ _ _ _ _ _ _
        (Prod.ext (hpre c).1 (Prod.ext (hpre c).2.1 (Prod.ext (hpre c).2.2.1 (Prod.ext (hpre c).2.2.2.1
          (Prod.ext (hpre c).2.2.2.2.1 (Prod.ext (hpre c).2.2.2.2.2.1 (hpre c).2.2.2.2.2.2))))))
      rw [ReferenceIdeal.Read.val_main_v49_eq, h0, h1, h2, h3, h4, h5, h6, h7, h8, h9, h10, h11, h12, h13, h14, h15, h16, h17, h18, h19, h20, h21]
      exact ReferenceIdeal.Enc.v49_eq _ _ _ _ _ _ _ _ _ _ _ _ _ _ _ _ _ _ _ _ _ _ hx
    · rw [(hagree c).2.2.2.2.2.2.1]

end Cert.Proof

end
